-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1920x2048 : Shape := ⟨3, ![8, 1920, 2048]⟩
abbrev S2048 : Shape := ⟨1, ![2048]⟩
abbrev S2048x5632 : Shape := ⟨2, ![2048, 5632]⟩
abbrev S5632 : Shape := ⟨1, ![5632]⟩
abbrev S15360x2048 : Shape := ⟨2, ![15360, 2048]⟩
abbrev S1x2048 : Shape := ⟨2, ![1, 2048]⟩
abbrev S1x5632 : Shape := ⟨2, ![1, 5632]⟩
abbrev S15360x5632 : Shape := ⟨2, ![15360, 5632]⟩
abbrev S8x1920 : Shape := ⟨2, ![8, 1920]⟩
abbrev S512x2048 : Shape := ⟨2, ![512, 2048]⟩
abbrev S512x5632 : Shape := ⟨2, ![512, 5632]⟩
abbrev S512 : Shape := ⟨1, ![512]⟩
abbrev S512x1 : Shape := ⟨2, ![512, 1]⟩
abbrev S128x1 : Shape := ⟨2, ![128, 1]⟩
abbrev S128x128 : Shape := ⟨2, ![128, 128]⟩
abbrev S8x128 : Shape := ⟨2, ![8, 128]⟩
abbrev S512x1024 : Shape := ⟨2, ![512, 1024]⟩
abbrev S1024x256 : Shape := ⟨2, ![1024, 256]⟩
abbrev S512x256 : Shape := ⟨2, ![512, 256]⟩
abbrev S1x256 : Shape := ⟨2, ![1, 256]⟩

abbrev nBuf : Space → Nat
  | .hbm => 10
  | .vmem => 12
  | .smem => 0
  | _ => 0

abbrev bufTy : (tb : Table) → Fin (tcTables nBuf tb) → BufTy
  | .hbm, ⟨0, _⟩ => ⟨S8x1920x2048, .bf16⟩
  | .hbm, ⟨1, _⟩ => ⟨S2048, .f32⟩
  | .hbm, ⟨2, _⟩ => ⟨S2048x5632, .i8⟩
  | .hbm, ⟨3, _⟩ => ⟨S5632, .f32⟩
  | .hbm, ⟨4, _⟩ => ⟨S15360x2048, .bf16⟩
  | .hbm, ⟨5, _⟩ => ⟨S1x2048, .f32⟩
  | .hbm, ⟨6, _⟩ => ⟨S1x5632, .f32⟩
  | .hbm, ⟨7, _⟩ => ⟨S15360x5632, .bf16⟩
  | .hbm, ⟨8, _⟩ => ⟨S15360x2048, .i8⟩
  | .hbm, ⟨9, _⟩ => ⟨S8x1920, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S2048x5632, .i8⟩
  | .local _ .vmem, ⟨4, _⟩ => ⟨S1x5632, .f32⟩
  | .local _ .vmem, ⟨5, _⟩ => ⟨S512x5632, .bf16⟩
  | .local _ .vmem, ⟨6, _⟩ => ⟨S512x5632, .bf16⟩
  | .local _ .vmem, ⟨7, _⟩ => ⟨S512x2048, .i8⟩
  | .local _ .vmem, ⟨8, _⟩ => ⟨S512x2048, .i8⟩
  | .local _ .vmem, ⟨9, _⟩ => ⟨S8x1920, .f32⟩
  | .local _ .vmem, ⟨10, _⟩ => ⟨S2048x5632, .bf16⟩
  | .local _ .vmem, ⟨11, _⟩ => ⟨S512x2048, .bf16⟩
  | _, _ => ⟨S8x1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![30], ![false]⟩

def k0_mult1 (i : grid0.Coords) : BitVec 32 :=
  let arg0 : BitVec 32 := BitVec.ofNat 32 (i 0).val
  let c4_i32 : BitVec 32 := 4#32
  let v36 : BitVec 32 := Scalar.muli arg0 c4_i32
  let c0_i32_13 : BitVec 32 := 0#32
  let v37 : BitVec 32 := Scalar.addi v36 c0_i32_13
  let c15_i32_19 : BitVec 32 := 15#32
  let c0_i32_20 : BitVec 32 := 0#32
  let v58 : BitVec 1 := Scalar.cmpi .eq c15_i32_19 c0_i32_20
  let c1_i32_21 : BitVec 32 := 1#32
  let v59 : BitVec 32 := Scalar.select v58 c1_i32_21 c15_i32_19
  let v60 : BitVec 32 := Scalar.remsi v37 v59
  let c0_i32_23 : BitVec 32 := 0#32
  let v62 : BitVec 1 := Scalar.cmpi .slt v60 c0_i32_23
  let c0_i32_24 : BitVec 32 := 0#32
  let v63 : BitVec 1 := Scalar.cmpi .slt v59 c0_i32_24
  let v64 : BitVec 1 := Scalar.xori v62 v63
  let c0_i32_22 : BitVec 32 := 0#32
  let v61 : BitVec 1 := Scalar.cmpi .ne v60 c0_i32_22
  let v65 : BitVec 1 := Scalar.andi v64 v61
  let v66 : BitVec 32 := Scalar.addi v60 v59
  let v67 : BitVec 32 := Scalar.select v65 v66 v60
  let c128_i32 : BitVec 32 := 128#32
  let v68 : BitVec 32 := Scalar.muli v67 c128_i32
  v68
def k0_off1 (i : grid0.Coords) (c0_i32_13 : BitVec 32) : Fin 2 → Nat :=
  let c0_25 : Index := 0#32
  let arg0 : BitVec 32 := BitVec.ofNat 32 (i 0).val
  let c4_i32 : BitVec 32 := 4#32
  let v36 : BitVec 32 := Scalar.muli arg0 c4_i32
  let v37 : BitVec 32 := Scalar.addi v36 c0_i32_13
  let c15_i32_19 : BitVec 32 := 15#32
  let c0_i32_20 : BitVec 32 := 0#32
  let v58 : BitVec 1 := Scalar.cmpi .eq c15_i32_19 c0_i32_20
  let c1_i32_21 : BitVec 32 := 1#32
  let v59 : BitVec 32 := Scalar.select v58 c1_i32_21 c15_i32_19
  let v60 : BitVec 32 := Scalar.remsi v37 v59
  let c0_i32_23 : BitVec 32 := 0#32
  let v62 : BitVec 1 := Scalar.cmpi .slt v60 c0_i32_23
  let c0_i32_24 : BitVec 32 := 0#32
  let v63 : BitVec 1 := Scalar.cmpi .slt v59 c0_i32_24
  let v64 : BitVec 1 := Scalar.xori v62 v63
  let c0_i32_22 : BitVec 32 := 0#32
  let v61 : BitVec 1 := Scalar.cmpi .ne v60 c0_i32_22
  let v65 : BitVec 1 := Scalar.andi v64 v61
  let v66 : BitVec 32 := Scalar.addi v60 v59
  let v67 : BitVec 32 := Scalar.select v65 v66 v60
  let c128_i32 : BitVec 32 := 128#32
  let v68 : BitVec 32 := Scalar.muli v67 c128_i32
  let v69 : BitVec 32 := v68
  let v71 : Index := Scalar.indexCast v69
  ![0, v71.toNat]
def k0_mult2 (i : grid0.Coords) : BitVec 32 :=
  let arg0 : BitVec 32 := BitVec.ofNat 32 (i 0).val
  let c4_i32_26 : BitVec 32 := 4#32
  let v80 : BitVec 32 := Scalar.muli arg0 c4_i32_26
  let c1_i32_27 : BitVec 32 := 1#32
  let v81 : BitVec 32 := Scalar.addi v80 c1_i32_27
  let c15_i32_35 : BitVec 32 := 15#32
  let c0_i32_36 : BitVec 32 := 0#32
  let v102 : BitVec 1 := Scalar.cmpi .eq c15_i32_35 c0_i32_36
  let c1_i32_37 : BitVec 32 := 1#32
  let v103 : BitVec 32 := Scalar.select v102 c1_i32_37 c15_i32_35
  let v104 : BitVec 32 := Scalar.remsi v81 v103
  let c0_i32_39 : BitVec 32 := 0#32
  let v106 : BitVec 1 := Scalar.cmpi .slt v104 c0_i32_39
  let c0_i32_40 : BitVec 32 := 0#32
  let v107 : BitVec 1 := Scalar.cmpi .slt v103 c0_i32_40
  let v108 : BitVec 1 := Scalar.xori v106 v107
  let c0_i32_38 : BitVec 32 := 0#32
  let v105 : BitVec 1 := Scalar.cmpi .ne v104 c0_i32_38
  let v109 : BitVec 1 := Scalar.andi v108 v105
  let v110 : BitVec 32 := Scalar.addi v104 v103
  let v111 : BitVec 32 := Scalar.select v109 v110 v104
  let c128_i32_41 : BitVec 32 := 128#32
  let v112 : BitVec 32 := Scalar.muli v111 c128_i32_41
  v112
def k0_mult3 (i : grid0.Coords) : BitVec 32 :=
  let arg0 : BitVec 32 := BitVec.ofNat 32 (i 0).val
  let c4_i32_43 : BitVec 32 := 4#32
  let v124 : BitVec 32 := Scalar.muli arg0 c4_i32_43
  let c2_i32 : BitVec 32 := 2#32
  let v125 : BitVec 32 := Scalar.addi v124 c2_i32
  let c15_i32_51 : BitVec 32 := 15#32
  let c0_i32_52 : BitVec 32 := 0#32
  let v146 : BitVec 1 := Scalar.cmpi .eq c15_i32_51 c0_i32_52
  let c1_i32_53 : BitVec 32 := 1#32
  let v147 : BitVec 32 := Scalar.select v146 c1_i32_53 c15_i32_51
  let v148 : BitVec 32 := Scalar.remsi v125 v147
  let c0_i32_55 : BitVec 32 := 0#32
  let v150 : BitVec 1 := Scalar.cmpi .slt v148 c0_i32_55
  let c0_i32_56 : BitVec 32 := 0#32
  let v151 : BitVec 1 := Scalar.cmpi .slt v147 c0_i32_56
  let v152 : BitVec 1 := Scalar.xori v150 v151
  let c0_i32_54 : BitVec 32 := 0#32
  let v149 : BitVec 1 := Scalar.cmpi .ne v148 c0_i32_54
  let v153 : BitVec 1 := Scalar.andi v152 v149
  let v154 : BitVec 32 := Scalar.addi v148 v147
  let v155 : BitVec 32 := Scalar.select v153 v154 v148
  let c128_i32_57 : BitVec 32 := 128#32
  let v156 : BitVec 32 := Scalar.muli v155 c128_i32_57
  v156
def k0_mult4 (i : grid0.Coords) : BitVec 32 :=
  let arg0 : BitVec 32 := BitVec.ofNat 32 (i 0).val
  let c4_i32_59 : BitVec 32 := 4#32
  let v168 : BitVec 32 := Scalar.muli arg0 c4_i32_59
  let c3_i32 : BitVec 32 := 3#32
  let v169 : BitVec 32 := Scalar.addi v168 c3_i32
  let c15_i32_67 : BitVec 32 := 15#32
  let c0_i32_68 : BitVec 32 := 0#32
  let v190 : BitVec 1 := Scalar.cmpi .eq c15_i32_67 c0_i32_68
  let c1_i32_69 : BitVec 32 := 1#32
  let v191 : BitVec 32 := Scalar.select v190 c1_i32_69 c15_i32_67
  let v192 : BitVec 32 := Scalar.remsi v169 v191
  let c0_i32_71 : BitVec 32 := 0#32
  let v194 : BitVec 1 := Scalar.cmpi .slt v192 c0_i32_71
  let c0_i32_72 : BitVec 32 := 0#32
  let v195 : BitVec 1 := Scalar.cmpi .slt v191 c0_i32_72
  let v196 : BitVec 1 := Scalar.xori v194 v195
  let c0_i32_70 : BitVec 32 := 0#32
  let v193 : BitVec 1 := Scalar.cmpi .ne v192 c0_i32_70
  let v197 : BitVec 1 := Scalar.andi v196 v193
  let v198 : BitVec 32 := Scalar.addi v192 v191
  let v199 : BitVec 32 := Scalar.select v197 v198 v192
  let c128_i32_73 : BitVec 32 := 128#32
  let v200 : BitVec 32 := Scalar.muli v199 c128_i32_73
  v200
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5632 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x1920x2048 : Shape := ⟨3, ![8, 1920, 2048]⟩
abbrev S2048 : Shape := ⟨1, ![2048]⟩
abbrev S2048x5632 : Shape := ⟨2, ![2048, 5632]⟩
abbrev S5632 : Shape := ⟨1, ![5632]⟩
abbrev S15360x2048 : Shape := ⟨2, ![15360, 2048]⟩
abbrev S1x2048 : Shape := ⟨2, ![1, 2048]⟩
abbrev S1x5632 : Shape := ⟨2, ![1, 5632]⟩
abbrev S15360x5632 : Shape := ⟨2, ![15360, 5632]⟩
abbrev S8x1920 : Shape := ⟨2, ![8, 1920]⟩
abbrev S15360 : Shape := ⟨1, ![15360]⟩
abbrev S15360x1 : Shape := ⟨2, ![15360, 1]⟩
abbrev S15360x512 : Shape := ⟨2, ![15360, 512]⟩
abbrev S512x5632 : Shape := ⟨2, ![512, 5632]⟩

abbrev nBuf : Space → Nat
  | .hbm => 10
  | .vmem => 7
  | .smem => 0
  | _ => 0

abbrev bufTy : (tb : Table) → Fin (tcTables nBuf tb) → BufTy
  | .hbm, ⟨0, _⟩ => ⟨S8x1920x2048, .bf16⟩
  | .hbm, ⟨1, _⟩ => ⟨S2048, .f32⟩
  | .hbm, ⟨2, _⟩ => ⟨S2048x5632, .i8⟩
  | .hbm, ⟨3, _⟩ => ⟨S5632, .f32⟩
  | .hbm, ⟨4, _⟩ => ⟨S15360x2048, .bf16⟩
  | .hbm, ⟨5, _⟩ => ⟨S1x2048, .f32⟩
  | .hbm, ⟨6, _⟩ => ⟨S1x5632, .f32⟩
  | .hbm, ⟨7, _⟩ => ⟨S15360x5632, .bf16⟩
  | .hbm, ⟨8, _⟩ => ⟨S15360x2048, .i8⟩
  | .hbm, ⟨9, _⟩ => ⟨S8x1920, .f32⟩
  | .local _ .vmem, ⟨0, _⟩ => ⟨S15360x2048, .bf16⟩
  | .local _ .vmem, ⟨1, _⟩ => ⟨S1x2048, .f32⟩
  | .local _ .vmem, ⟨2, _⟩ => ⟨S2048x5632, .i8⟩
  | .local _ .vmem, ⟨3, _⟩ => ⟨S1x5632, .f32⟩
  | .local _ .vmem, ⟨4, _⟩ => ⟨S15360x5632, .bf16⟩
  | .local _ .vmem, ⟨5, _⟩ => ⟨S15360x2048, .i8⟩
  | .local _ .vmem, ⟨6, _⟩ => ⟨S8x1920, .f32⟩
  | _, _ => ⟨S8x1920x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S15360x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5632 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Rows.lean ====
/- The quantised linear layer row by row, over the extended reals: what one row's scale and codes are, and one entry of
   the product, as plain functions of a row of activations and a column of weights. -/
module

public import Idealize.ShloMosaic.PureOps.Ideal.Laws
public import Idealize.ShloMosaic.Lib.ValueIdx
public import Idealize.ShloMosaic.Lib.ValueIdxCore
public import Idealize.ShloMosaic.Lib.MatmulPlain
public import Idealize.ShloMosaic.Lib.Pipeline.Value

@[expose] public section

set_option maxRecDepth 16384

noncomputable section

namespace Cert.Lin

open Idealize.ShloMosaic Idealize.ShloMosaic.ValueIdx

/-- The largest magnitude in a row. -/
def amax (v : Fin 2048 → EReal) : EReal :=
  (Finset.univ : Finset (Fin 2048)).fold max (FloatOps.ofBits (F := Ideal) .f32 0xFF800000#32)
    (fun k => FloatOps.absf (F := Ideal) (φ := .f32) (v k))

/-- A row's scale: its largest magnitude over 127, or 1 for a zero row. -/
def scl (v : Fin 2048 → EReal) : EReal :=
  Scalar.select (FloatOps.cmpf (F := Ideal) (φ := .f32) .ogt (amax v) (Ideal.ofBits .f32 0x00000000#32))
    (Ideal.div (amax v) (Ideal.ofBits .f32 0x42FE0000#32)) (Ideal.ofBits .f32 0x3F800000#32)

/-- The code of one scaled activation `z` at a row scale `s`: `z / s` rounded to the nearest integer (ties to even), clipped
    to [-127, 127], as a signed 8-bit word. -/
def code (z s : EReal) : BitVec 8 :=
  Ideal.fptosi 8 (min (Ideal.ofBits .f32 0x42FE0000#32) (max (Ideal.ofBits .f32 0xC2FE0000#32)
    (FloatOps.roundeven (F := Ideal) (φ := .f32) (Ideal.div z s))))

/-- The integer dot product of a row of codes and a column of weights. -/
def dotI {K : ℕ} (q w : Fin K → BitVec 8) : ℤ := ∑ k, (q k).toInt * (w k).toInt

/-- The integer `n` as an extended real. -/
def ofI (n : ℤ) : EReal := ((n : ℝ) : EReal)

/-- One entry of the product: the integer dot product rescaled by the row's scale and then by the column's. -/
def yval (q w : Fin 2048 → BitVec 8) (s ws : EReal) : EReal := ofI (dotI q w) * s * ws

/-- The sum of two integers, taken over the extended reals. -/
theorem ofI_add (a b : ℤ) : ofI a + ofI b = ofI (a + b) := by
  unfold ofI; rw [← EReal.coe_add]; congr 1; push_cast; ring

/-- Their product. -/
theorem ofI_mul (a b : ℤ) : ofI a * ofI b = ofI (a * b) := by
  unfold ofI; rw [← EReal.coe_mul]; congr 1; push_cast; ring

/-- Zero. -/
theorem ofI_zero : ofI 0 = 0 := by simp [ofI]

/-- A sum of integers, taken over the extended reals, is the integer sum. -/
theorem sum_ofI {ι : Type*} (s : Finset ι) (f : ι → ℤ) : ∑ k ∈ s, ofI (f k) = ofI (∑ k ∈ s, f k) := by
  classical
  refine Finset.induction_on s (by simp [ofI_zero]) fun a s ha ih => ?_
  rw [Finset.sum_insert ha, Finset.sum_insert ha, ih, ofI_add]

/-- Two 8-bit words' product is at most 2^14 in magnitude, so a dot product of `K` of them at most `K` times that. -/
theorem dotI_bound {K : ℕ} (q w : Fin K → BitVec 8) : |dotI q w| ≤ K * 2 ^ 14 := by
  unfold dotI
  refine (Finset.abs_sum_le_sum_abs _ _).trans ?_
  have h : ∀ k ∈ (Finset.univ : Finset (Fin K)), |(q k).toInt * (w k).toInt| ≤ 2 ^ 14 := by
    intro k _
    have b1 : |(q k).toInt| ≤ 128 := by
      have h1 := BitVec.toInt_lt (x := q k); have h2 := BitVec.le_toInt (x := q k)
      rw [abs_le]; constructor <;> omega
    have b2 : |(w k).toInt| ≤ 128 := by
      have h1 := BitVec.toInt_lt (x := w k); have h2 := BitVec.le_toInt (x := w k)
      rw [abs_le]; constructor <;> omega
    rw [abs_mul]
    calc _ ≤ (128 : ℤ) * 128 := mul_le_mul b1 b2 (abs_nonneg _) (by norm_num)
      _ = 2 ^ 14 := by norm_num
  have := Finset.sum_le_card_nsmul _ _ _ h
  simpa using this

/-- Converting an integer-valued extended real in range to a 32-bit word is exact. -/
theorem fptosi32_ofI (n : ℤ) (h : |n| < 2 ^ 31) : Ideal.fptosi 32 (ofI n) = BitVec.ofInt 32 n := by
  unfold Ideal.fptosi ofI
  rw [Ideal.toIntClamped_coe]
  congr 1
  rw [abs_lt] at h
  have e : (if (0 : ℝ) ≤ (n : ℝ) then ⌊(n : ℝ)⌋ else ⌈(n : ℝ)⌉) = n := by split <;> simp
  rw [e]
  have h1 := h.1; have h2 := h.2
  norm_num at h1 h2 ⊢
  omega

/-- The signed reading of the sum of two words of integers is the integers' sum, where that is in range. -/
theorem toInt_ofInt32 (n : ℤ) (h : |n| < 2 ^ 31) : (BitVec.ofInt 32 n).toInt = n := by
  rw [BitVec.toInt_ofInt]
  rw [abs_lt] at h
  have h1 := h.1; have h2 := h.2
  apply Int.bmod_eq_of_le <;> norm_num at * <;> omega

/-- The `K`-long window of a row from `o`. -/
def sub {α : Type} (o K : ℕ) (h : o + K ≤ 2048) (q : Fin 2048 → α) : Fin K → α :=
  fun k => q ⟨o + k.val, by omega⟩

/-- A dot product cut in two. -/
theorem dotI_halves (q w : Fin 2048 → BitVec 8) :
    dotI (sub 0 1024 (by omega) q) (sub 0 1024 (by omega) w) + dotI (sub 1024 1024 (by omega) q) (sub 1024 1024 (by omega) w) = dotI q w := by
  unfold dotI sub
  rw [show (∑ k : Fin 2048, (q k).toInt * (w k).toInt) = ∑ k : Fin (1024 + 1024), (q k).toInt * (w k).toInt from rfl, Fin.sum_univ_add]
  congr 1
/-- A dot product cut in four. -/
theorem dotI_quarters (q w : Fin 2048 → BitVec 8) :
    dotI (sub 0 512 (by omega) q) (sub 0 512 (by omega) w) + dotI (sub 512 512 (by omega) q) (sub 512 512 (by omega) w)
      + dotI (sub 1024 512 (by omega) q) (sub 1024 512 (by omega) w) + dotI (sub 1536 512 (by omega) q) (sub 1536 512 (by omega) w)
      = dotI q w := by
  unfold dotI sub
  rw [show (∑ k : Fin 2048, (q k).toInt * (w k).toInt) = ∑ k : Fin (512 + 512 + 512 + 512), (q k).toInt * (w k).toInt from rfl,
    Fin.sum_univ_add, Fin.sum_univ_add, Fin.sum_univ_add]
  congr 1

/-- The four chunks' products, each converted to a 32-bit integer and added as 32-bit integers, read back signed: no step
    overflows, so the result is the whole dot product. -/
theorem chunks_toInt (q w : Fin 2048 → BitVec 8) (a b c d : EReal)
    (ha : a = ofI (dotI (sub 0 512 (by omega) q) (sub 0 512 (by omega) w)))
    (hb : b = ofI (dotI (sub 512 512 (by omega) q) (sub 512 512 (by omega) w)))
    (hc : c = ofI (dotI (sub 1024 512 (by omega) q) (sub 1024 512 (by omega) w)))
    (hd : d = ofI (dotI (sub 1536 512 (by omega) q) (sub 1536 512 (by omega) w))) :
    ((((0#32 + Ideal.fptosi 32 a) + Ideal.fptosi 32 b) + Ideal.fptosi 32 c) + Ideal.fptosi 32 d).toInt = dotI q w := by
  have A := dotI_bound (sub 0 512 (by omega) q) (sub 0 512 (by omega) w)
  have B := dotI_bound (sub 512 512 (by omega) q) (sub 512 512 (by omega) w)
  have C := dotI_bound (sub 1024 512 (by omega) q) (sub 1024 512 (by omega) w)
  have D := dotI_bound (sub 1536 512 (by omega) q) (sub 1536 512 (by omega) w)
  subst ha hb hc hd
  rw [← dotI_quarters q w]
  generalize dotI (sub 0 512 (by omega) q) (sub 0 512 (by omega) w) = x at *
  generalize dotI (sub 512 512 (by omega) q) (sub 512 512 (by omega) w) = y at *
  generalize dotI (sub 1024 512 (by omega) q) (sub 1024 512 (by omega) w) = z at *
  generalize dotI (sub 1536 512 (by omega) q) (sub 1536 512 (by omega) w) = t at *
  rw [abs_le] at A B C D
  norm_num at A B C D
  have lt : ∀ n : ℤ, -8388608 ≤ n ∧ n ≤ 8388608 → |n| < 2 ^ 31 := fun n h => by
    rw [abs_lt]; constructor <;> norm_num <;> omega
  rw [fptosi32_ofI x (lt x A), fptosi32_ofI y (lt y B), fptosi32_ofI z (lt z C), fptosi32_ofI t (lt t D)]
  rw [BitVec.zero_add, ← BitVec.ofInt_add, ← BitVec.ofInt_add, ← BitVec.ofInt_add]
  refine toInt_ofInt32 _ ?_
  rw [abs_lt]; constructor <;> norm_num <;> omega

/-- A window of the row times a window of the column, summed over the extended reals, is the window's integer dot product. -/
theorem sum_codes {K : ℕ} (q w : Fin K → BitVec 8) :
    ∑ k : Fin K, ofI (q k).toInt * ofI (w k).toInt = ofI (dotI q w) := by
  unfold dotI; rw [← sum_ofI]; exact Finset.sum_congr rfl fun k _ => ofI_mul _ _

section Apply
variable {s : Shape}
/-- A conversion of floats to signed 8-bit words at an index. -/
theorem fptosi8_apply (v : FVec Ideal s .f32) (i : s.Idx) : fptosi 8 v i = Ideal.fptosi 8 (v i) := rfl
/-- A conversion of floats to signed 32-bit words at an index. -/
theorem fptosi32_apply (v : FVec Ideal s .f32) (i : s.Idx) : fptosi 32 v i = Ideal.fptosi 32 (v i) := rfl
/-- A rounding to the nearest integer at an index. -/
theorem roundeven_apply (v : FVec Ideal s .f32) (i : s.Idx) : roundeven v i = FloatOps.roundeven (F := Ideal) (φ := .f32) (v i) := rfl
/-- A magnitude at an index. -/
theorem absf_apply (v : FVec Ideal s .f32) (i : s.Idx) : absf v i = FloatOps.absf (F := Ideal) (φ := .f32) (v i) := rfl
/-- A conversion of signed 8-bit words to 16-bit floats at an index: the word's signed value. -/
theorem sitofp8_apply (v : IVec s 8) (i : s.Idx) : (sitofp .bf16 v : FVec Ideal s .bf16) i = ofI (v i).toInt := rfl
/-- A conversion of signed 32-bit words to floats at an index: the word's signed value. -/
theorem sitofp32_apply (v : IVec s 32) (i : s.Idx) : (sitofp .f32 v : FVec Ideal s .f32) i = ofI (v i).toInt := rfl
/-- A selection at an index. -/
theorem select_apply' {α : Type} (c : IVec s 1) (a b : s.Idx → α) (i : s.Idx) : select c a b i = Scalar.select (c i) (a i) (b i) := rfl
/-- A sum of words at an index. -/
theorem addi_apply' (a b : IVec s 32) (i : s.Idx) : addi a b i = a i + b i := rfl
end Apply

end Cert.Lin

end
-- ==== Proof.Spec.lean ====
/- The three results as functions of the four operands: what both programs' result arrays are shown to be. -/
module

public import proofs.«01_k».proof.Proof.Rows
public import proofs.«01_k».proof.Defs

@[expose] public section

set_option maxRecDepth 16384

noncomputable section

namespace Cert.Lin

open Cert.KernelIdeal
open Idealize.ShloMosaic Idealize.ShloMosaic.ValueIdx

variable (x0 : Vec Ideal S15360x2048 .bf16) (x1 : Vec Ideal S1x2048 .f32) (x2 : Vec Ideal S2048x5632 .i8) (x3 : Vec Ideal S1x5632 .f32)

/-- A token's activations times the column factors. -/
def lrow (R : Fin 15360) : Fin 2048 → EReal := fun k => x0 (ix2 R k) * x1 (ix2 0 k)

/-- The codes of all tokens. -/
def codes : Vec Ideal S15360x2048 .i8 := fun i => code (lrow x0 x1 (i 0) (i 1)) (scl (lrow x0 x1 (i 0)))

/-- The scales of all tokens, as 8 rows of 1920. -/
def scales : Vec Ideal S8x1920 .f32 := fun i =>
  scl (lrow x0 x1 ⟨1920 * (i 0).val + (i 1).val, by have h0 : (i 0).val < 8 := (i 0).isLt; have h1 : (i 1).val < 1920 := (i 1).isLt; omega⟩)

/-- The product: each entry the integer dot product of a token's codes and a column of weights, rescaled by the token's scale
    and the column's. -/
def product : Vec Ideal S15360x5632 .bf16 := fun i =>
  yval (fun k => code (lrow x0 x1 (i 0) k) (scl (lrow x0 x1 (i 0)))) (fun k => x2 (ix2 k (i 1))) (scl (lrow x0 x1 (i 0))) (x3 (ix2 0 (i 1)))

end Cert.Lin

end
-- ==== Proof.Setup.lean ====
/- What the hand-proved run of the kernel's body stands on: the frame read off a relational run, the branch condition,
   the staging memrefs, the scratch invariant. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    `RDat.FramePost` read at the argument arrays — a staged input by the library's
    `RDat.FramePost.arr_in`, an array no window stages by the post's second clause, each then by `V_…` — is the frame
    claim's post. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, e0]
    word_cmp
   : ∀ t : Fin grid0.N, cond0_0 (grid0.coords t) ↔ t.val % 30 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
/-- That buffer of the activations is a whole buffer. -/
abbrev hs0_0 (t : Fin cfg0.N) : (ms0_0 t).IsWhole := hstage0_0 ((cfg0.slots t 0).cast nbuf0_0)
/-- The staging buffer of the column factors at point `t`. -/
abbrev ms0_1 (t : Fin cfg0.N) : Memref sig .tc .vmem S1x2048 .f32 := win0_1.stage (cfg0.slots t 1)
/-- That buffer of the column factors is a whole buffer. -/
abbrev hs0_1 (t : Fin cfg0.N) : (ms0_1 t).IsWhole := hstage0_1 ((cfg0.slots t 1).cast nbuf0_1)
/-- The staging buffer of the weights at point `t`. -/
abbrev ms0_2 (t : Fin cfg0.N) : Memref sig .tc .vmem S2048x5632 .i8 := win0_2.stage (cfg0.slots t 2)
/-- That buffer of the weights is a whole buffer. -/
abbrev hs0_2 (t : Fin cfg0.N) : (ms0_2 t).IsWhole := hstage0_2 ((cfg0.slots t 2).cast nbuf0_2)
/-- The staging buffer of the weights' scales at point `t`. -/
abbrev ms0_3 (t : Fin cfg0.N) : Memref sig .tc .vmem S1x5632 .f32 := win0_3.stage (cfg0.slots t 3)
/-- That buffer of the weights' scales is a whole buffer. -/
abbrev hs0_3 (t : Fin cfg0.N) : (ms0_3 t).IsWhole := hstage0_3 ((cfg0.slots t 3).cast nbuf0_3)
/-- The staging buffer of the product at point `t`. -/
abbrev ms0_4 (t : Fin cfg0.N) : Memref sig .tc .vmem S512x5632 .bf16 := win0_4.stage (cfg0.slots t 4)
/-- That buffer of the product is a whole buffer. -/
abbrev hs0_4 (t : Fin cfg0.N) : (ms0_4 t).IsWhole := hstage0_4 ((cfg0.slots t 4).cast nbuf0_4)
/-- The staging buffer of the codes at point `t`. -/
abbrev ms0_5 (t : Fin cfg0.N) : Memref sig .tc .vmem S512x2048 .i8 := win0_5.stage (cfg0.slots t 5)
/-- That buffer of the codes is a whole buffer. -/
abbrev hs0_5 (t : Fin cfg0.N) : (ms0_5 t).IsWhole := hstage0_5 ((cfg0.slots t 5).cast nbuf0_5)
/-- The staging buffer of the scales at point `t`. -/
abbrev ms0_6 (t : Fin cfg0.N) : Memref sig .tc .vmem S8x1920 .f32 := win0_6.stage (cfg0.slots t 6)
/-- That buffer of the scales is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2048x5632 .bf16 := Memref.whole cc0_scratch0
/-- The scratch buffer of the codes as bf16. -/
abbrev scM0_1 : Memref sig .tc .vmem S512x2048 .bf16 := Memref.whole cc0_scratch1

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Val

end
-- ==== Proof.RunA.lean ====
/- The kernel's whole body run once, at the first point (the scratch copy of the weights is stored there). -/
module

public import proofs.«01_k».proof.Proof.Setup

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The kernel's body at the first point (the scratch copy of the weights is stored there): on whole staging memrefs — the inputs at their contents, the scales' array
    at `d6`, the other outputs at anything — it runs to the continuation holding the inputs as they were and
    what its stores left: the product's and the codes' buffers and the scratch as lists of pieces (last first),
    the scales' array at the named contents `G6`. -/
def kernelRun0_A (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : cond0_0 i)
    (x0 : Vec F S512x2048 .bf16) (x1 : Vec F S1x2048 .f32) (x2 : Vec F S2048x5632 .i8) (x3 : Vec F S1x5632 .f32) (d6 : Vec F S8x1920 .f32) :
    Σ' (L4 : List (View.Piece (Elt F) S512x5632 .bf16)), Σ' (L5 : List (View.Piece (Elt F) S512x2048 .i8)), Σ' (G6 : Vec F S8x1920 .f32), Σ' (LS0 : List (View.Piece (Elt F) S2048x5632 .bf16)), { LT1 : List (View.Piece (Elt F) S512x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare G6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_w8a8_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_w8a8_linear_eq_skeleton]; unfold cc0_w8a8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; swap; · iexact H6
      ipureintro; rfl
    isplitl [HS0]; · iexists _; iexact HS0
    iexists _; iexact HS1

end Cert.KernelIdeal.Val

end
-- ==== Proof.KernelRows.lean ====
/- The kernel body's values, read at an index over the extended reals, as the row functions of `Rows`. -/
module

public import proofs.«01_k».proof.Proof.Rows
public import proofs.«01_k».proof.Proof.Gen.KernelIdeal
public import proofs.«01_k».proof.Proof.Gen.KernelIdeal.Skeleton
public import Idealize.ShloMosaic.Adequacy
public import Idealize.ShloMosaic.Init

@[expose] public section

set_option maxRecDepth 16384

noncomputable section

namespace Cert.KernelIdeal.Val

open Cert.Lin Cert.KernelIdeal Cert.KernelIdeal.Gen
open Idealize.ShloMosaic Idealize.ShloMosaic.ValueIdx

variable (x0 : Vec Ideal S512x2048 .bf16) (x1 : Vec Ideal S1x2048 .f32)

/-- Row `r` of the block scaled lane by lane. -/
def krow (r : Fin 512) : Fin 2048 → EReal := fun k => x0 (ix2 r k) * x1 (ix2 0 k)

/-- The scaled block at an index. -/
theorem pay2_apply (r : Fin 512) (k : Fin 2048) : k0_pay2 x0 x1 (ix2 r k) = krow x0 x1 r k := by
  unfold k0_pay2
  try dsimp only
  rw [mulf_apply, extf_apply, shapeCast_self, shapeCast_self,
    broadcastTo_apply (k := ix2 0 k)]
  · rfl
  · intro a; match a with
    | ⟨0, _⟩ => rfl
    | ⟨1, _⟩ => rfl

/-- The row scales at an index. -/
theorem pay3_apply (r : Fin 512) (z : Fin 1) : k0_pay3 x0 x1 (ix2 r z) = scl (krow x0 x1 r) := by
  obtain rfl : z = 0 := Subsingleton.elim _ _
  have hm : (shapeCast S512x1 (multiReduction .maximumf [1] S512 (absf (k0_pay2 x0 x1)) 0xFF800000#32 reduces_S512x2048_S512 (.inl rfl) rfl) shapeCasts_S512_S512x1) (ix2 r 0)
      = amax (krow x0 x1 r) := by
    rw [shapeCast_apply (k := ix1 r)]
    · refine (Ideal.multiReduction_maximumf_single _ _ _ _ _ _).trans ?_
      unfold amax
      refine congrArg (fun f => Finset.fold max _ f _) (funext fun k => ?_)
      have e : reduces_S512x2048_S512.lift (ix1 r) k = ix2 r k := by
        funext a; apply Fin.ext
        match a with
        | ⟨0, _⟩ => rfl
        | ⟨1, _⟩ => rfl
      exact congrArg (FloatOps.absf (F := Ideal) (φ := .f32)) ((congrArg (k0_pay2 x0 x1) e).trans (pay2_apply x0 x1 r k))
    · rw [Shape.rowMajor_val_two, Shape.rowMajor_val_one]; show r.val = r.val * 1 + 0; omega
  unfold k0_pay3
  try dsimp only
  rw [select_apply', cmpf_apply, divf_apply, hm, broadcast_apply, broadcast_apply, broadcast_apply]; rfl

/-- The codes at an index. -/
theorem pay4_apply (r : Fin 512) (k : Fin 2048) : k0_pay4 x0 x1 (ix2 r k) = code (krow x0 x1 r k) (scl (krow x0 x1 r)) := by
  unfold k0_pay4
  try dsimp only
  rw [fptosi8_apply, minimumf_apply, maximumf_apply, roundeven_apply, divf_apply, broadcast_apply, broadcast_apply, pay2_apply, broadcastTo_apply (k := ix2 r 0), pay3_apply]
  · rfl
  · intro a; match a with
    | ⟨0, _⟩ => rfl
    | ⟨1, _⟩ => rfl

/-- The codes as 16-bit floats at an index: the codes' signed values. -/
theorem pay5_apply (r : Fin 512) (k : Fin 2048) : k0_pay5 x0 x1 (ix2 r k) = ofI (k0_pay4 x0 x1 (ix2 r k)).toInt := by
  unfold k0_pay5
  try dsimp only
  rw [shapeCast_self, sitofp8_apply]

/-- The weights as 16-bit floats at an index: the weights' signed values. -/
theorem pay1_apply (x2 : Vec Ideal S2048x5632 .i8) (i : S2048x5632.Idx) : k0_pay1 (F := Ideal) x2 i = ofI (x2 i).toInt := by
  unfold k0_pay1
  try dsimp only
  rw [shapeCast_self, sitofp8_apply]

/-- The four groups of 128 scales, laid along the lanes. -/
theorem group_apply {α : Type} (off : Fin 2 → ℕ) (o : ℕ) (ho : off = ![o, 0]) (hle : o + 128 ≤ 512) (v : S512x1.Idx → α) (h1 : S512x1.Slices off S128x1) (h2 : S128x1.ShapeCasts S128x1)
    (h3 : S128x1.Broadcasts S128x128) (h4 : S128x128.Transposes [1, 0] S128x128) (h5 : S128x128.Slices ![0, 0] S8x128)
    (h6 : S8x128.ShapeCasts S8x128) (a : Fin 8) (l : Fin 128) :
    shapeCast S8x128 (extractStridedSlice S8x128 ![0, 0] (transpose S128x128 [1, 0] (broadcastTo S128x128
      (shapeCast S128x1 (extractStridedSlice S128x1 off v h1) h2) h3) h4) h5) h6 (ix2 a l) = v (ix2 ⟨o + l.val, by omega⟩ 0) := by
  subst ho
  rw [shapeCast_self, shapeCast_self, extractStridedSlice_apply (k := ix2 ⟨a.val, by omega⟩ l), transpose_apply (k := ix2 l ⟨a.val, by omega⟩),
    broadcastTo_apply (k := ix2 l 0), extractStridedSlice_apply (k := ix2 ⟨o + l.val, by omega⟩ 0)]
  all_goals
    intro b; match b with
    | ⟨0, _⟩ => first | rfl | (show _ = _; simp [ix2]; done) | skip
    | ⟨1, _⟩ => first | rfl | (show _ = _; simp [ix2]; done) | skip

/-- The tile of scales stored for lane group 0: lane `l` is the scale of that group's row `l`. -/
theorem g0_apply (a : Fin 8) (l : Fin 128) : k0_pay7 (F := Ideal) (k0_pay6 x0 x1) (ix2 a l) = k0_pay3 x0 x1 (ix2 ⟨0 + l.val, by omega⟩ 0) :=
  group_apply _ 0 rfl (by omega) _ _ _ _ _ _ _ a l
/-- The tile of scales stored for lane group 1: lane `l` is the scale of that group's row `l`. -/
theorem g1_apply (v : FVec Ideal S512x1 .f32) (a : Fin 8) (l : Fin 128) : k0_pay10 (F := Ideal) (k0_pay9 v) (ix2 a l) = v (ix2 ⟨128 + l.val, by omega⟩ 0) :=
  group_apply _ 128 rfl (by omega) _ _ _ _ _ _ _ a l
/-- The tile of scales stored for lane group 2: lane `l` is the scale of that group's row `l`. -/
theorem g2_apply (v : FVec Ideal S512x1 .f32) (a : Fin 8) (l : Fin 128) : k0_pay13 (F := Ideal) (k0_pay12 v) (ix2 a l) = v (ix2 ⟨256 + l.val, by omega⟩ 0) :=
  group_apply _ 256 rfl (by omega) _ _ _ _ _ _ _ a l
/-- The tile of scales stored for lane group 3: lane `l` is the scale of that group's row `l`. -/
theorem g3_apply (v : FVec Ideal S512x1 .f32) (a : Fin 8) (l : Fin 128) : k0_pay16 (F := Ideal) (k0_pay15 v) (ix2 a l) = v (ix2 ⟨384 + l.val, by omega⟩ 0) :=
  group_apply _ 384 rfl (by omega) _ _ _ _ _ _ _ a l

/-- One block of 256 columns of the product at an index. -/
theorem pay18_apply (v : FVec Ideal S512x1 .f32) (qa qb : Vec Ideal S512x1024 .bf16) (wa wb : Vec Ideal S1024x256 .bf16) (ws : Vec Ideal S1x256 .f32)
    (r : Fin 512) (n : Fin 256) :
    k0_pay18 (F := Ideal) v qa wa qb wb ws (ix2 r n)
      = ((∑ k : Fin 1024, qa (ix2 r k) * wa (ix2 k n)) + (∑ k : Fin 1024, qb (ix2 r k) * wb (ix2 k n))) * v (ix2 r 0) * ws (ix2 0 n) := by
  have hm : ∀ (q : FVec Ideal S512x1024 .bf16) (w : FVec Ideal S1024x256 .bf16),
      matmul (F := Ideal) dot_S512x1024_S1024x256_S512x256_1_0_0_1_n_n none q w (constant S512x256 .f32 0x00000000#32) (ix2 r n)
        = ∑ k : Fin 1024, q (ix2 r k) * w (ix2 k n) := by
    intro q w
    refine (Ideal.matmul_plain_apply none q w (constant S512x256 .f32 0x00000000#32) r n).trans ?_
    rw [constant_apply, Ideal.ofBits_zero_f32, zero_add]
  unfold k0_pay18
  try dsimp only
  rw [truncf_apply, mulf_apply, mulf_apply, addf_apply, hm, hm, shapeCast_self, broadcastTo_apply (k := ix2 r 0), broadcastTo_apply (k := ix2 0 n)]
  all_goals
    intro a; match a with
    | ⟨0, _⟩ => rfl
    | ⟨1, _⟩ => rfl

end Cert.KernelIdeal.Val

end
-- ==== Proof.Forms.lean ====
/- What the body's loads and stores come to, read at an index: loads of whole staging memrefs and of a once-stored scratch,
   a block of the product, and one masked store of 128 scales. -/
module

public import proofs.«01_k».proof.Proof.KernelRows
public import Idealize.ShloMosaic.Lib.WholeRead
public import Idealize.ShloMosaic.Lib.VecWindow

@[expose] public section

set_option maxRecDepth 16384

noncomputable section

namespace Cert.KernelIdeal.Val

open Cert.Lin Cert.KernelIdeal Cert.KernelIdeal.Gen
open Idealize.ShloMosaic Idealize.ShloMosaic.ValueIdx

/-- A load of a whole memref's own sizes, the memref held at the contents that read `X`, reads `X`. -/
theorem read_whole {κ : Kind} {sp : Space} {s : Shape} {e : EltTy} {mm : Memref sig κ sp s e} (h : mm.IsWhole)
    (X : s.Idx → Elt Ideal e) {off : Fin s.rank → ℕ} (inb : ∀ a, off a + s.size a ≤ s.size a) :
    View.readAt (Elt Ideal) mm.view (Rect.unit off s.size inb).toLoadRect (h.unread X) = X := by
  rw [View.readAt_full]; exact h.read_unread X

/-- A load of part of a buffer one store filled whole, at an index: the stored value there. -/
theorem readCov_apply {κ : Kind} {sp : Space} {s : Shape} {e : EltTy} (v : View sig κ sp s e) {off : Fin s.rank → ℕ} (h : off = fun _ => 0)
    (inb : ∀ a, off a + s.size a ≤ s.size a) (w : s.Idx → Elt Ideal e) (R : Rect s) (x : R.shape.Idx) :
    v.readCov [(⟨Rect.unit off s.size inb, w⟩ : View.Piece (Elt Ideal) s e)] R.toLoadRect x = w (R.emb x) := by
  subst h
  rw [View.readCov_eq_canon_ld _ _ _ (fun y => ⟨_, List.mem_singleton_self _, by
    show y ∈ (Rect.whole s).set; rw [Rect.set_whole]; exact Finset.mem_univ y⟩), View.canon_unit_zero rfl]
  rfl

variable (x0 : Vec Ideal S512x2048 .bf16) (x1 : Vec Ideal S1x2048 .f32) (x2 : Vec Ideal S2048x5632 .i8) (x3 : Vec Ideal S1x5632 .f32)

/-- The block of the product a grid point computes from its blocks of the operands. -/
def yblk : Vec Ideal S512x5632 .bf16 := fun i =>
  yval (fun k => k0_pay4 x0 x1 (ix2 (i 0) k)) (fun k => x2 (ix2 k (i 1))) (scl (krow x0 x1 (i 0))) (x3 (ix2 0 (i 1)))

/-- One stored block of 256 columns holds the product's entries. -/
theorem block_good (o : ℕ) (inb : ∀ a, (![0, o] : Fin 2 → ℕ) a + (![512, 256] : Fin 2 → ℕ) a ≤ S512x5632.size a) (ho : o + 256 ≤ 5632)
    (v : FVec Ideal S512x1 .f32) (qa qb : Vec Ideal S512x1024 .bf16) (wa wb : Vec Ideal S1024x256 .bf16) (ws : Vec Ideal S1x256 .f32)
    (hv : ∀ r : Fin 512, v (ix2 r 0) = scl (krow x0 x1 r))
    (hqa : ∀ (r : Fin 512) (k : Fin 1024), qa (ix2 r k) = ofI (k0_pay4 x0 x1 (ix2 r ⟨0 + k.val, by omega⟩)).toInt)
    (hqb : ∀ (r : Fin 512) (k : Fin 1024), qb (ix2 r k) = ofI (k0_pay4 x0 x1 (ix2 r ⟨1024 + k.val, by omega⟩)).toInt)
    (hwa : ∀ (k : Fin 1024) (n : Fin 256), wa (ix2 k n) = ofI (x2 (ix2 ⟨0 + k.val, by omega⟩ ⟨o + n.val, by omega⟩)).toInt)
    (hwb : ∀ (k : Fin 1024) (n : Fin 256), wb (ix2 k n) = ofI (x2 (ix2 ⟨1024 + k.val, by omega⟩ ⟨o + n.val, by omega⟩)).toInt)
    (hws : ∀ n : Fin 256, ws (ix2 0 n) = x3 (ix2 0 ⟨o + n.val, by omega⟩))
    (x : S512x256.Idx) :
    k0_pay18 (F := Ideal) v qa wa qb wb ws x = yblk x0 x1 x2 x3 ((Rect.unit (s := S512x5632) ![0, o] ![512, 256] inb).emb x) := by
  obtain ⟨r, n, rfl⟩ : ∃ (r : Fin 512) (n : Fin 256), x = ix2 r n := ⟨x 0, x 1, by funext a; match a with | ⟨0, _⟩ => rfl | ⟨1, _⟩ => rfl⟩
  have e : (Rect.unit (s := S512x5632) ![0, o] ![512, 256] inb).emb (ix2 r n) = ix2 r ⟨o + n.val, by omega⟩ := by
    funext a; apply Fin.ext
    match a with
    | ⟨0, _⟩ => show 0 + 1 * r.val = r.val; omega
    | ⟨1, _⟩ => show o + 1 * n.val = o + n.val; omega
  rw [e, pay18_apply, hv, hws]
  show _ = ofI (dotI (fun k => k0_pay4 x0 x1 (ix2 r k)) (fun k => x2 (ix2 k ⟨o + n.val, by omega⟩))) * scl (krow x0 x1 r) * x3 (ix2 0 ⟨o + n.val, by omega⟩)
  rw [← dotI_halves, ← ofI_add, ← sum_codes, ← sum_codes]
  refine congrArg₂ (fun a b : EReal => (a + b) * scl (krow x0 x1 r) * x3 (ix2 0 ⟨o + n.val, by omega⟩)) ?_ ?_
  · exact Finset.sum_congr rfl fun k _ => by rw [hqa, hwa]; rfl
  · exact Finset.sum_congr rfl fun k _ => by rw [hqb, hwb]; rfl

/-! ## The masked stores of the scales -/

/-- An index is stored to when the mask's entry there is 1. -/
theorem mem_on_iff {t : Shape} (m : IVec t 1) (x : t.Idx) : x ∈ IVec.on m ↔ m x = 1 := by
  simp [IVec.on]

/-- One masked store of 128 scales at row-group `n` of the array (row `n / 15`, lanes `(n % 15) · 128` up): an entry of the
    array in that row-group reads the stored value, any other entry what was there. -/
theorem step_apply (arg7 : Memref sig .tc .vmem S8x1920 .f32) (f : arg7.view.ty.Contents (Elt Ideal)) (n : ℕ) (off : Fin 2 → ℕ)
    (hoff : ∀ a, off a = (![0, n % 15 * 128] : Fin 2 → ℕ) a)
    (inb : ∀ a, off a + S8x128.size a ≤ S8x1920.size a) (w : Vec Ideal S8x128 .f32) (M : IVec S8x128 1)
    (hM : ∀ (a : Fin 8) (l : Fin 128), M (ix2 a l) = 1#1 ↔ a.val = n / 15) (a : Fin 8) (s : Fin 1920) :
    View.read (Elt Ideal) arg7.view (View.write (Elt Ideal) (arg7.access (Rect.unit (s := S8x1920) off S8x128.size inb)) f w M.on) (ix2 a s)
      = if 15 * a.val + s.val / 128 = n then w (ix2 a ⟨s.val % 128, Nat.mod_lt _ (by norm_num)⟩) else View.read (Elt Ideal) arg7.view f (ix2 a s) := by
  obtain rfl : off = ![0, n % 15 * 128] := funext hoff
  by_cases h : 15 * a.val + s.val / 128 = n
  · rw [if_pos h]
    have e : (Rect.unit (s := S8x1920) ![0, n % 15 * 128] S8x128.size inb).emb (ix2 a (⟨s.val % 128, Nat.mod_lt _ (by norm_num)⟩ : Fin 128)) = ix2 a s := by
      funext b; apply Fin.ext
      match b with
      | ⟨0, _⟩ => show 0 + 1 * a.val = a.val; omega
      | ⟨1, _⟩ => show n % 15 * 128 + 1 * (s.val % 128) = s.val; omega
    rw [← e]
    refine View.read_slice_write_emb _ _ _ ((mem_on_iff _ _).mpr ((hM _ _).mpr ?_))
    omega
  · rw [if_neg h]
    refine View.read_slice_write_of_not_mem _ _ _ _ ?_
    intro hm
    obtain ⟨x, hx, e⟩ := Finset.mem_map.mp hm
    obtain ⟨b, l, rfl⟩ : ∃ (b : Fin 8) (l : Fin 128), x = ix2 b l := ⟨x 0, x 1, by funext a; match a with | ⟨0, _⟩ => rfl | ⟨1, _⟩ => rfl⟩
    have hb := (hM b l).mp ((mem_on_iff _ _).mp hx)
    have e0 : 0 + 1 * b.val = a.val := congrArg (fun j : S8x1920.Idx => (j 0).val) e
    have e1 : n % 15 * 128 + 1 * l.val = s.val := congrArg (fun j : S8x1920.Idx => (j 1).val) e
    apply h
    have := l.isLt
    omega

/-- The offsets of group `g`'s store at a grid point. -/
theorem off_eq : ∀ (i : grid0.Coords) (g : Fin 4) (a : Fin 2), k0_off1 i (BitVec.ofNat 32 g.val) a = (![0, (4 * (i 0).val + g.val) % 15 * 128] : Fin 2 → ℕ) a := by
  decide +kernel

/-- A mask of one row is constant along the row. -/
theorem mask_row (w : BitVec 32) (a : Fin 8) (l : Fin 128) :
    cmpi .eq (iota .tc S8x128 32 [0] iota_S8x128_d0_w32) (broadcast S8x128 w) (ix2 a l)
      = cmpi .eq (iota .tc S8x128 32 [0] iota_S8x128_d0_w32) (broadcast S8x128 w) (ix2 a 0) := rfl

/-- The mask of group 0 at a grid point: the row of the group. -/
theorem mask0 (i : grid0.Coords) (a : Fin 8) (l : Fin 128) :
    k0_pay8 (Scalar.addi (Scalar.muli (BitVec.ofNat 32 (i 0).val) 4#32) 0#32) (ix2 a l) = 1#1 ↔ a.val = (4 * (i 0).val + 0) / 15 := by
  have h : ∀ (i : grid0.Coords) (a : Fin 8), (k0_pay8 (Scalar.addi (Scalar.muli (BitVec.ofNat 32 (i 0).val) 4#32) 0#32) (ix2 a 0) = 1#1 ↔ a.val = (4 * (i 0).val + 0) / 15) := by
    decide +kernel
  have e : k0_pay8 (Scalar.addi (Scalar.muli (BitVec.ofNat 32 (i 0).val) 4#32) 0#32) (ix2 a l) = k0_pay8 (Scalar.addi (Scalar.muli (BitVec.ofNat 32 (i 0).val) 4#32) 0#32) (ix2 a 0) := by
    unfold k0_pay8
    try dsimp only
    rw [shapeCast_self]
    exact mask_row _ a l
  rw [e]; exact h i a

/-- The mask of group 1 at a grid point: the row of the group. -/
theorem mask1 (i : grid0.Coords) (a : Fin 8) (l : Fin 128) :
    k0_pay11 (Scalar.muli (BitVec.ofNat 32 (i 0).val) 4#32) (ix2 a l) = 1#1 ↔ a.val = (4 * (i 0).val + 1) / 15 := by
  have h : ∀ (i : grid0.Coords) (a : Fin 8), (k0_pay11 (Scalar.muli (BitVec.ofNat 32 (i 0).val) 4#32) (ix2 a 0) = 1#1 ↔ a.val = (4 * (i 0).val + 1) / 15) := by
    decide +kernel
  have e : k0_pay11 (Scalar.muli (BitVec.ofNat 32 (i 0).val) 4#32) (ix2 a l) = k0_pay11 (Scalar.muli (BitVec.ofNat 32 (i 0).val) 4#32) (ix2 a 0) := by
    unfold k0_pay11
    try dsimp only
    rw [shapeCast_self]
    exact mask_row _ a l
  rw [e]; exact h i a

/-- The mask of group 2 at a grid point: the row of the group. -/
theorem mask2 (i : grid0.Coords) (a : Fin 8) (l : Fin 128) :
    k0_pay14 (BitVec.ofNat 32 (i 0).val) (ix2 a l) = 1#1 ↔ a.val = (4 * (i 0).val + 2) / 15 := by
  have h : ∀ (i : grid0.Coords) (a : Fin 8), (k0_pay14 (BitVec.ofNat 32 (i 0).val) (ix2 a 0) = 1#1 ↔ a.val = (4 * (i 0).val + 2) / 15) := by
    decide +kernel
  have e : k0_pay14 (BitVec.ofNat 32 (i 0).val) (ix2 a l) = k0_pay14 (BitVec.ofNat 32 (i 0).val) (ix2 a 0) := by
    unfold k0_pay14
    try dsimp only
    rw [shapeCast_self]
    exact mask_row _ a l
  rw [e]; exact h i a

/-- The mask of group 3 at a grid point: the row of the group. -/
theorem mask3 (i : grid0.Coords) (a : Fin 8) (l : Fin 128) :
    k0_pay17 (BitVec.ofNat 32 (i 0).val) (ix2 a l) = 1#1 ↔ a.val = (4 * (i 0).val + 3) / 15 := by
  have h : ∀ (i : grid0.Coords) (a : Fin 8), (k0_pay17 (BitVec.ofNat 32 (i 0).val) (ix2 a 0) = 1#1 ↔ a.val = (4 * (i 0).val + 3) / 15) := by
    decide +kernel
  have e : k0_pay17 (BitVec.ofNat 32 (i 0).val) (ix2 a l) = k0_pay17 (BitVec.ofNat 32 (i 0).val) (ix2 a 0) := by
    unfold k0_pay17
    try dsimp only
    rw [shapeCast_self]
    exact mask_row _ a l
  rw [e]; exact h i a

/-- The four tests of a row-group, one after another, are one test of the row. -/
theorem four_if (v : Fin 512 → EReal) (d : EReal) (t : ℕ) (a : Fin 8) (s : Fin 1920) :
    (if 15 * a.val + s.val / 128 = 4 * t + 3 then v ⟨384 + s.val % 128, by omega⟩ else
      if 15 * a.val + s.val / 128 = 4 * t + 2 then v ⟨256 + s.val % 128, by omega⟩ else
      if 15 * a.val + s.val / 128 = 4 * t + 1 then v ⟨128 + s.val % 128, by omega⟩ else
      if 15 * a.val + s.val / 128 = 4 * t + 0 then v ⟨0 + s.val % 128, by omega⟩ else d)
      = if h : 512 * t ≤ 1920 * a.val + s.val ∧ 1920 * a.val + s.val < 512 * t + 512 then v ⟨1920 * a.val + s.val - 512 * t, by omega⟩ else d := by
  split_ifs <;> first | rfl | omega | (refine congrArg v (Fin.ext ?_); simp only []; omega)

/-- The four masked stores of a grid point: an entry whose row-group is one of the point's four reads the scale of its row,
    any other entry what was there. -/
theorem four_apply (arg7 : Memref sig .tc .vmem S8x1920 .f32) (harg7 : arg7.IsWhole) (d6 : Vec Ideal S8x1920 .f32) (i : grid0.Coords)
    (f1 f2 f3 f4 : arg7.view.ty.Contents (Elt Ideal))
    (w0 w1 w2 w3 : Vec Ideal S8x128 .f32)
    (h0 : ∀ (a : Fin 8) (l : Fin 128), w0 (ix2 a l) = scl (krow x0 x1 ⟨0 + l.val, by omega⟩))
    (h1 : ∀ (a : Fin 8) (l : Fin 128), w1 (ix2 a l) = scl (krow x0 x1 ⟨128 + l.val, by omega⟩))
    (h2 : ∀ (a : Fin 8) (l : Fin 128), w2 (ix2 a l) = scl (krow x0 x1 ⟨256 + l.val, by omega⟩))
    (h3 : ∀ (a : Fin 8) (l : Fin 128), w3 (ix2 a l) = scl (krow x0 x1 ⟨384 + l.val, by omega⟩))
    (b0 : ∀ a, k0_off1 i 0#32 a + S8x128.size a ≤ S8x1920.size a)
    (e0 : f1 = View.write (Elt Ideal) (arg7.access (Rect.unit (s := S8x1920) (k0_off1 i 0#32) S8x128.size b0)) (harg7.unread d6) w0 (k0_pay8 (Scalar.addi (Scalar.muli (BitVec.ofNat 32 (i 0).val) 4#32) 0#32)).on)
    (b1 : ∀ a, k0_off1 i 1#32 a + S8x128.size a ≤ S8x1920.size a)
    (e1 : f2 = View.write (Elt Ideal) (arg7.access (Rect.unit (s := S8x1920) (k0_off1 i 1#32) S8x128.size b1)) f1 w1 (k0_pay11 (Scalar.muli (BitVec.ofNat 32 (i 0).val) 4#32)).on)
    (b2 : ∀ a, k0_off1 i 2#32 a + S8x128.size a ≤ S8x1920.size a)
    (e2 : f3 = View.write (Elt Ideal) (arg7.access (Rect.unit (s := S8x1920) (k0_off1 i 2#32) S8x128.size b2)) f2 w2 (k0_pay14 (BitVec.ofNat 32 (i 0).val)).on)
    (b3 : ∀ a, k0_off1 i 3#32 a + S8x128.size a ≤ S8x1920.size a)
    (e3 : f4 = View.write (Elt Ideal) (arg7.access (Rect.unit (s := S8x1920) (k0_off1 i 3#32) S8x128.size b3)) f3 w3 (k0_pay17 (BitVec.ofNat 32 (i 0).val)).on)
    (a : Fin 8) (s : Fin 1920) :
    View.read (Elt Ideal) arg7.view f4 (ix2 a s)
      = if h : 512 * (i 0).val ≤ 1920 * a.val + s.val ∧ 1920 * a.val + s.val < 512 * (i 0).val + 512 then
          scl (krow x0 x1 ⟨1920 * a.val + s.val - 512 * (i 0).val, by omega⟩)
        else d6 (ix2 a s) := by
  have o0 : ∀ a : Fin 2, k0_off1 i 0#32 a = (![0, (4 * (i 0).val + 0) % 15 * 128] : Fin 2 → ℕ) a := off_eq i 0
  have o1 : ∀ a : Fin 2, k0_off1 i 1#32 a = (![0, (4 * (i 0).val + 1) % 15 * 128] : Fin 2 → ℕ) a := off_eq i 1
  have o2 : ∀ a : Fin 2, k0_off1 i 2#32 a = (![0, (4 * (i 0).val + 2) % 15 * 128] : Fin 2 → ℕ) a := off_eq i 2
  have o3 : ∀ a : Fin 2, k0_off1 i 3#32 a = (![0, (4 * (i 0).val + 3) % 15 * 128] : Fin 2 → ℕ) a := off_eq i 3
  rw [e3, step_apply arg7 _ _ _ o3 b3 w3 _ (mask3 i) a s, h3, e2, step_apply arg7 _ _ _ o2 b2 w2 _ (mask2 i) a s, h2, e1, step_apply arg7 _ _ _ o1 b1 w1 _ (mask1 i) a s, h1, e0, step_apply arg7 _ _ _ o0 b0 w0 _ (mask0 i) a s, h0,
    harg7.read_unread]
  exact four_if (fun r => scl (krow x0 x1 r)) (d6 (ix2 a s)) (i 0).val a s

end Cert.KernelIdeal.Val

end
-- ==== Proof.FormA.lean ====
/- What the body leaves at the first point, over the extended reals: the product's block, the codes' block, the scales' array. -/
module

public import proofs.«01_k».proof.Proof.RunA
public import proofs.«01_k».proof.Proof.Forms

@[expose] public section

set_option maxRecDepth 16384

noncomputable section

namespace Cert.KernelIdeal.Val

open Cert.Lin Cert.KernelIdeal Cert.KernelIdeal.Gen
open Idealize.ShloMosaic Idealize.ShloMosaic.ValueIdx

section
variable (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : cond0_0 i)
    (x0 : Vec Ideal S512x2048 .bf16) (x1 : Vec Ideal S1x2048 .f32) (x2 : Vec Ideal S2048x5632 .i8) (x3 : Vec Ideal S1x5632 .f32) (d6 : Vec Ideal S8x1920 .f32)

/-- The row scales the run computes. -/
theorem runA_r (r : Fin 512) : kernelRun0_A.sl.r (F := Ideal) c arg1 harg1 arg2 harg2 x0 x1 (ix2 r 0) = scl (krow x0 x1 r) := by
  unfold kernelRun0_A.sl.r
  rw [read_whole, read_whole, pay3_apply]

/-- The lower half of the codes the run reads back. -/
theorem runA_qa (r : Fin 512) (k : Fin 1024) :
    kernelRun0_A.sl.v208 (F := Ideal) c arg1 harg1 arg2 harg2 arg9 x0 x1 (ix2 r k) = ofI (k0_pay4 x0 x1 (ix2 r ⟨0 + k.val, by omega⟩)).toInt := by
  unfold kernelRun0_A.sl.v208 kernelRun0_A.sl.HS1_1
  rw [readCov_apply _ (by decide), read_whole, read_whole]
  have e : (Rect.unit (s := S512x2048) ![0, 0] S512x1024.size inb_S512x2048_S512x1024_0_0).emb (ix2 r k) = ix2 r ⟨0 + k.val, by omega⟩ := by
    funext a; apply Fin.ext
    match a with
    | ⟨0, _⟩ => show 0 + 1 * r.val = r.val; omega
    | ⟨1, _⟩ => show 0 + 1 * k.val = 0 + k.val; omega
  exact (congrArg (k0_pay5 x0 x1) e).trans (pay5_apply x0 x1 r _)

/-- The upper half of the codes the run reads back. -/
theorem runA_qb (r : Fin 512) (k : Fin 1024) :
    kernelRun0_A.sl.v211 (F := Ideal) c arg1 harg1 arg2 harg2 arg9 x0 x1 (ix2 r k) = ofI (k0_pay4 x0 x1 (ix2 r ⟨1024 + k.val, by omega⟩)).toInt := by
  unfold kernelRun0_A.sl.v211 kernelRun0_A.sl.HS1_1
  rw [readCov_apply _ (by decide), read_whole, read_whole]
  have e : (Rect.unit (s := S512x2048) ![0, 1024] S512x1024.size inb_S512x2048_S512x1024_0_1024).emb (ix2 r k) = ix2 r ⟨1024 + k.val, by omega⟩ := by
    funext a; apply Fin.ext
    match a with
    | ⟨0, _⟩ => show 0 + 1 * r.val = r.val; omega
    | ⟨1, _⟩ => show 1024 + 1 * k.val = 1024 + k.val; omega
  exact (congrArg (k0_pay5 x0 x1) e).trans (pay5_apply x0 x1 r _)

/-- A block of the weights' scratch copy read back in the run that stored it. -/
theorem runA_w (h k : ℕ) (inb : ∀ a, (![h, k] : Fin 2 → ℕ) a + (![1024, 256] : Fin 2 → ℕ) a ≤ S2048x5632.size a) (j : Fin 1024) (n : Fin 256)
    (hh : h + 1024 ≤ 2048) (hk : k + 256 ≤ 5632) :
    arg8.view.readCov (kernelRun0_A.sl.HS0_1 (F := Ideal) c arg3 harg3 x2) (Rect.unit (s := S2048x5632) ![h, k] ![1024, 256] inb).toLoadRect (ix2 j n)
      = ofI (x2 (ix2 ⟨h + j.val, by omega⟩ ⟨k + n.val, by omega⟩)).toInt := by
  unfold kernelRun0_A.sl.HS0_1
  rw [readCov_apply _ (by decide), read_whole, pay1_apply]
  refine congrArg (fun i : S2048x5632.Idx => ofI (BitVec.toInt (x2 i))) ?_
  funext a; apply Fin.ext
  match a with
  | ⟨0, _⟩ => show h + 1 * j.val = h + j.val; omega
  | ⟨1, _⟩ => show k + 1 * n.val = k + n.val; omega

/-- A block of the weights' column scales. -/
theorem runA_ws (k : ℕ) (inb : ∀ a, (![0, k] : Fin 2 → ℕ) a + (![1, 256] : Fin 2 → ℕ) a ≤ S1x5632.size a) (n : Fin 256) (hk : k + 256 ≤ 5632) :
    View.readAt (Elt Ideal) arg4.view (Rect.unit (s := S1x5632) ![0, k] ![1, 256] inb).toLoadRect (harg4.unread x3) (ix2 0 n) = x3 (ix2 0 ⟨k + n.val, by omega⟩) := by
  refine (Memref.IsWhole.readAt_unread (Val := Elt Ideal) harg4 x3 (Rect.unit (s := S1x5632) ![0, k] ![1, 256] inb).toLoadRect (ix2 0 n)).trans (congrArg x3 ?_)
  funext a; apply Fin.ext
  match a with
  | ⟨0, _⟩ => rfl
  | ⟨1, _⟩ => show k + 1 * n.val = k + n.val; omega

/-- Column tile 1 of the product is computed by the first tile's function. -/
theorem runA_p19 : @k0_pay19 Ideal _ = k0_pay18 := rfl
/-- Column tile 2 of the product is computed by the first tile's function. -/
theorem runA_p20 : @k0_pay20 Ideal _ = k0_pay18 := rfl
/-- Column tile 3 of the product is computed by the first tile's function. -/
theorem runA_p21 : @k0_pay21 Ideal _ = k0_pay18 := rfl
/-- Column tile 4 of the product is computed by the first tile's function. -/
theorem runA_p22 : @k0_pay22 Ideal _ = k0_pay18 := rfl
/-- Column tile 5 of the product is computed by the first tile's function. -/
theorem runA_p23 : @k0_pay23 Ideal _ = k0_pay18 := rfl
/-- Column tile 6 of the product is computed by the first tile's function. -/
theorem runA_p24 : @k0_pay24 Ideal _ = k0_pay18 := rfl
/-- Column tile 7 of the product is computed by the first tile's function. -/
theorem runA_p25 : @k0_pay25 Ideal _ = k0_pay18 := rfl
/-- Column tile 8 of the product is computed by the first tile's function. -/
theorem runA_p26 : @k0_pay26 Ideal _ = k0_pay18 := rfl
/-- Column tile 9 of the product is computed by the first tile's function. -/
theorem runA_p27 : @k0_pay27 Ideal _ = k0_pay18 := rfl
/-- Column tile 10 of the product is computed by the first tile's function. -/
theorem runA_p28 : @k0_pay28 Ideal _ = k0_pay18 := rfl
/-- Column tile 11 of the product is computed by the first tile's function. -/
theorem runA_p29 : @k0_pay29 Ideal _ = k0_pay18 := rfl
/-- Column tile 12 of the product is computed by the first tile's function. -/
theorem runA_p30 : @k0_pay30 Ideal _ = k0_pay18 := rfl
/-- Column tile 13 of the product is computed by the first tile's function. -/
theorem runA_p31 : @k0_pay31 Ideal _ = k0_pay18 := rfl
/-- Column tile 14 of the product is computed by the first tile's function. -/
theorem runA_p32 : @k0_pay32 Ideal _ = k0_pay18 := rfl
/-- Column tile 15 of the product is computed by the first tile's function. -/
theorem runA_p33 : @k0_pay33 Ideal _ = k0_pay18 := rfl
/-- Column tile 16 of the product is computed by the first tile's function. -/
theorem runA_p34 : @k0_pay34 Ideal _ = k0_pay18 := rfl
/-- Column tile 17 of the product is computed by the first tile's function. -/
theorem runA_p35 : @k0_pay35 Ideal _ = k0_pay18 := rfl
/-- Column tile 18 of the product is computed by the first tile's function. -/
theorem runA_p36 : @k0_pay36 Ideal _ = k0_pay18 := rfl
/-- Column tile 19 of the product is computed by the first tile's function. -/
theorem runA_p37 : @k0_pay37 Ideal _ = k0_pay18 := rfl
/-- Column tile 20 of the product is computed by the first tile's function. -/
theorem runA_p38 : @k0_pay38 Ideal _ = k0_pay18 := rfl
/-- Column tile 21 of the product is computed by the first tile's function. -/
theorem runA_p39 : @k0_pay39 Ideal _ = k0_pay18 := rfl

/-- The product's stores leave the block of the product, whatever was there before. -/
theorem runA_y (f : arg5.view.ty.Contents (Elt Ideal)) :
    View.read (Elt Ideal) arg5.view (arg5.view.writes (Elt Ideal) f (kernelRun0_A c i arg1 harg1 arg2 harg2 arg3 harg3 arg4 harg4 arg5 harg5 arg6 harg6 arg7 harg7 arg8 harg8 arg9 harg9 hc0 x0 x1 x2 x3 d6).1) = yblk x0 x1 x2 x3 := by
  funext y
  refine View.read_writes_apply_of_pieces _ _ (yblk x0 x1 x2 x3) _ ?_ y (View.cover_of_tiled _ ![512, 256] (by rfl) y)
  unfold kernelRun0_A
  try dsimp only
  simp only [runA_p19, runA_p20, runA_p21, runA_p22, runA_p23, runA_p24, runA_p25, runA_p26, runA_p27, runA_p28, runA_p29, runA_p30, runA_p31, runA_p32, runA_p33, runA_p34, runA_p35, runA_p36, runA_p37, runA_p38, runA_p39]
  refine List.forall_mem_cons.2 ⟨?_, ?_⟩
  · exact block_good x0 x1 x2 x3 5376 inb_S512x5632_S512x256_0_5376 (by norm_num) _ _ _ _ _ _ (fun r => runA_r (r := r) ..) (fun r k => runA_qa (r := r) (k := k) ..) (fun r k => runA_qb (r := r) (k := k) ..) (fun j n => runA_w (h := 0) (k := 5376) (j := j) (n := n) (hh := by norm_num) (hk := by norm_num) ..) (fun j n => runA_w (h := 1024) (k := 5376) (j := j) (n := n) (hh := by norm_num) (hk := by norm_num) ..) (fun n => runA_ws (k := 5376) (n := n) (hk := by norm_num) ..)
  refine List.forall_mem_cons.2 ⟨?_, ?_⟩
  · exact block_good x0 x1 x2 x3 5120 inb_S512x5632_S512x256_0_5120 (by norm_num) _ _ _ _ _ _ (fun r => runA_r (r := r) ..) (fun r k => runA_qa (r := r) (k := k) ..) (fun r k => runA_qb (r := r) (k := k) ..) (fun j n => runA_w (h := 0) (k := 5120) (j := j) (n := n) (hh := by norm_num) (hk := by norm_num) ..) (fun j n => runA_w (h := 1024) (k := 5120) (j := j) (n := n) (hh := by norm_num) (hk := by norm_num) ..) (fun n => runA_ws (k := 5120) (n := n) (hk := by norm_num) ..)
  refine List.forall_mem_cons.2 ⟨?_, ?_⟩
  · exact block_good x0 x1 x2 x3 4864 inb_S512x5632_S512x256_0_4864 (by norm_num) _ _ _ _ _ _ (fun r => runA_r (r := r) ..) (fun r k => runA_qa (r := r) (k := k) ..) (fun r k => runA_qb (r := r) (k := k) ..) (fun j n => runA_w (h := 0) (k := 4864) (j := j) (n := n) (hh := by norm_num) (hk := by norm_num) ..) (fun j n => runA_w (h := 1024) (k := 4864) (j := j) (n := n) (hh := by norm_num) (hk := by norm_num) ..) (fun n => runA_ws (k := 4864) (n := n) (hk := by norm_num) ..)
  refine List.forall_mem_cons.2 ⟨?_, ?_⟩
  · exact block_good x0 x1 x2 x3 4608 inb_S512x5632_S512x256_0_4608 (by norm_num) _ _ _ _ _ _ (fun r => runA_r (r := r) ..) (fun r k => runA_qa (r := r) (k := k) ..) (fun r k => runA_qb (r := r) (k := k) ..) (fun j n => runA_w (h := 0) (k := 4608) (j := j) (n := n) (hh := by norm_num) (hk := by norm_num) ..) (fun j n => runA_w (h := 1024) (k := 4608) (j := j) (n := n) (hh := by norm_num) (hk := by norm_num) ..) (fun n => runA_ws (k := 4608) (n := n) (hk := by norm_num) ..)
  refine List.forall_mem_cons.2 ⟨?_, ?_⟩
  · exact block_good x0 x1 x2 x3 4352 inb_S512x5632_S512x256_0_4352 (by norm_num) _ _ _ _ _ _ (fun r => runA_r (r := r) ..) (fun r k => runA_qa (r := r) (k := k) ..) (fun r k => runA_qb (r := r) (k := k) ..) (fun j n => runA_w (h := 0) (k := 4352) (j := j) (n := n) (hh := by norm_num) (hk := by norm_num) ..) (fun j n => runA_w (h := 1024) (k := 4352) (j := j) (n := n) (hh := by norm_num) (hk := by norm_num) ..) (fun n => runA_ws (k := 4352) (n := n) (hk := by norm_num) ..)
  refine List.forall_mem_cons.2 ⟨?_, ?_⟩
  · exact block_good x0 x1 x2 x3 4096 inb_S512x5632_S512x256_0_4096 (by norm_num) _ _ _ _ _ _ (fun r => runA_r (r := r) ..) (fun r k => runA_qa (r := r) (k := k) ..) (fun r k => runA_qb (r := r) (k := k) ..) (fun j n => runA_w (h := 0) (k := 4096) (j := j) (n := n) (hh := by norm_num) (hk := by norm_num) ..) (fun j n => runA_w (h := 1024) (k := 4096) (j := j) (n := n) (hh := by norm_num) (hk := by norm_num) ..) (fun n => runA_ws (k := 4096) (n := n) (hk := by norm_num) ..)
  refine List.forall_mem_cons.2 ⟨?_, ?_⟩
  · exact block_good x0 x1 x2 x3 3840 inb_S512x5632_S512x256_0_3840 (by norm_num) _ _ _ _ _ _ (fun r => runA_r (r := r) ..) (fun r k => runA_qa (r := r) (k := k) ..) (fun r k => runA_qb (r := r) (k := k) ..) (fun j n => runA_w (h := 0) (k := 3840) (j := j) (n := n) (hh := by norm_num) (hk := by norm_num) ..) (fun j n => runA_w (h := 1024) (k := 3840) (j := j) (n := n) (hh := by norm_num) (hk := by norm_num) ..) (fun n => runA_ws (k := 3840) (n := n) (hk := by norm_num) ..)
  refine List.forall_mem_cons.2 ⟨?_, ?_⟩
  · exact block_good x0 x1 x2 x3 3584 inb_S512x5632_S512x256_0_3584 (by norm_num) _ _ _ _ _ _ (fun r => runA_r (r := r) ..) (fun r k => runA_qa (r := r) (k := k) ..) (fun r k => runA_qb (r := r) (k := k) ..) (fun j n => runA_w (h := 0) (k := 3584) (j := j) (n := n) (hh := by norm_num) (hk := by norm_num) ..) (fun j n => runA_w (h := 1024) (k := 3584) (j := j) (n := n) (hh := by norm_num) (hk := by norm_num) ..) (fun n => runA_ws (k := 3584) (n := n) (hk := by norm_num) ..)
  refine List.forall_mem_cons.2 ⟨?_, ?_⟩
  · exact block_good x0 x1 x2 x3 3328 inb_S512x5632_S512x256_0_3328 (by norm_num) _ _ _ _ _ _ (fun r => runA_r (r := r) ..) (fun r k => runA_qa (r := r) (k := k) ..) (fun r k => runA_qb (r := r) (k := k) ..) (fun j n => runA_w (h := 0) (k := 3328) (j := j) (n := n) (hh := by norm_num) (hk := by norm_num) ..) (fun j n => runA_w (h := 1024) (k := 3328) (j := j) (n := n) (hh := by norm_num) (hk := by norm_num) ..) (fun n => runA_ws (k := 3328) (n := n) (hk := by norm_num) ..)
  refine List.forall_mem_cons.2 ⟨?_, ?_⟩
  · exact block_good x0 x1 x2 x3 3072 inb_S512x5632_S512x256_0_3072 (by norm_num) _ _ _ _ _ _ (fun r => runA_r (r := r) ..) (fun r k => runA_qa (r := r) (k := k) ..) (fun r k => runA_qb (r := r) (k := k) ..) (fun j n => runA_w (h := 0) (k := 3072) (j := j) (n := n) (hh := by norm_num) (hk := by norm_num) ..) (fun j n => runA_w (h := 1024) (k := 3072) (j := j) (n := n) (hh := by norm_num) (hk := by norm_num) ..) (fun n => runA_ws (k := 3072) (n := n) (hk := by norm_num) ..)
  refine List.forall_mem_cons.2 ⟨?_, ?_⟩
  · exact block_good x0 x1 x2 x3 2816 inb_S512x5632_S512x256_0_2816 (by norm_num) _ _ _ _ _ _ (fun r => runA_r (r := r) ..) (fun r k => runA_qa (r := r) (k := k) ..) (fun r k => runA_qb (r := r) (k := k) ..) (fun j n => runA_w (h := 0) (k := 2816) (j := j) (n := n) (hh := by norm_num) (hk := by norm_num) ..) (fun j n => runA_w (h := 1024) (k := 2816) (j := j) (n := n) (hh := by norm_num) (hk := by norm_num) ..) (fun n => runA_ws (k := 2816) (n := n) (hk := by norm_num) ..)
  refine List.forall_mem_cons.2 ⟨?_, ?_⟩
  · exact block_good x0 x1 x2 x3 2560 inb_S512x5632_S512x256_0_2560 (by norm_num) _ _ _ _ _ _ (fun r => runA_r (r := r) ..) (fun r k => runA_qa (r := r) (k := k) ..) (fun r k => runA_qb (r := r) (k := k) ..) (fun j n => runA_w (h := 0) (k := 2560) (j := j) (n := n) (hh := by norm_num) (hk := by norm_num) ..) (fun j n => runA_w (h := 1024) (k := 2560) (j := j) (n := n) (hh := by norm_num) (hk := by norm_num) ..) (fun n => runA_ws (k := 2560) (n := n) (hk := by norm_num) ..)
  refine List.forall_mem_cons.2 ⟨?_, ?_⟩
  · exact block_good x0 x1 x2 x3 2304 inb_S512x5632_S512x256_0_2304 (by norm_num) _ _ _ _ _ _ (fun r => runA_r (r := r) ..) (fun r k => runA_qa (r := r) (k := k) ..) (fun r k => runA_qb (r := r) (k := k) ..) (fun j n => runA_w (h := 0) (k := 2304) (j := j) (n := n) (hh := by norm_num) (hk := by norm_num) ..) (fun j n => runA_w (h := 1024) (k := 2304) (j := j) (n := n) (hh := by norm_num) (hk := by norm_num) ..) (fun n => runA_ws (k := 2304) (n := n) (hk := by norm_num) ..)
  refine List.forall_mem_cons.2 ⟨?_, ?_⟩
  · exact block_good x0 x1 x2 x3 2048 inb_S512x5632_S512x256_0_2048 (by norm_num) _ _ _ _ _ _ (fun r => runA_r (r := r) ..) (fun r k => runA_qa (r := r) (k := k) ..) (fun r k => runA_qb (r := r) (k := k) ..) (fun j n => runA_w (h := 0) (k := 2048) (j := j) (n := n) (hh := by norm_num) (hk := by norm_num) ..) (fun j n => runA_w (h := 1024) (k := 2048) (j := j) (n := n) (hh := by norm_num) (hk := by norm_num) ..) (fun n => runA_ws (k := 2048) (n := n) (hk := by norm_num) ..)
  refine List.forall_mem_cons.2 ⟨?_, ?_⟩
  · exact block_good x0 x1 x2 x3 1792 inb_S512x5632_S512x256_0_1792 (by norm_num) _ _ _ _ _ _ (fun r => runA_r (r := r) ..) (fun r k => runA_qa (r := r) (k := k) ..) (fun r k => runA_qb (r := r) (k := k) ..) (fun j n => runA_w (h := 0) (k := 1792) (j := j) (n := n) (hh := by norm_num) (hk := by norm_num) ..) (fun j n => runA_w (h := 1024) (k := 1792) (j := j) (n := n) (hh := by norm_num) (hk := by norm_num) ..) (fun n => runA_ws (k := 1792) (n := n) (hk := by norm_num) ..)
  refine List.forall_mem_cons.2 ⟨?_, ?_⟩
  · exact block_good x0 x1 x2 x3 1536 inb_S512x5632_S512x256_0_1536 (by norm_num) _ _ _ _ _ _ (fun r => runA_r (r := r) ..) (fun r k => runA_qa (r := r) (k := k) ..) (fun r k => runA_qb (r := r) (k := k) ..) (fun j n => runA_w (h := 0) (k := 1536) (j := j) (n := n) (hh := by norm_num) (hk := by norm_num) ..) (fun j n => runA_w (h := 1024) (k := 1536) (j := j) (n := n) (hh := by norm_num) (hk := by norm_num) ..) (fun n => runA_ws (k := 1536) (n := n) (hk := by norm_num) ..)
  refine List.forall_mem_cons.2 ⟨?_, ?_⟩
  · exact block_good x0 x1 x2 x3 1280 inb_S512x5632_S512x256_0_1280 (by norm_num) _ _ _ _ _ _ (fun r => runA_r (r := r) ..) (fun r k => runA_qa (r := r) (k := k) ..) (fun r k => runA_qb (r := r) (k := k) ..) (fun j n => runA_w (h := 0) (k := 1280) (j := j) (n := n) (hh := by norm_num) (hk := by norm_num) ..) (fun j n => runA_w (h := 1024) (k := 1280) (j := j) (n := n) (hh := by norm_num) (hk := by norm_num) ..) (fun n => runA_ws (k := 1280) (n := n) (hk := by norm_num) ..)
  refine List.forall_mem_cons.2 ⟨?_, ?_⟩
  · exact block_good x0 x1 x2 x3 1024 inb_S512x5632_S512x256_0_1024 (by norm_num) _ _ _ _ _ _ (fun r => runA_r (r := r) ..) (fun r k => runA_qa (r := r) (k := k) ..) (fun r k => runA_qb (r := r) (k := k) ..) (fun j n => runA_w (h := 0) (k := 1024) (j := j) (n := n) (hh := by norm_num) (hk := by norm_num) ..) (fun j n => runA_w (h := 1024) (k := 1024) (j := j) (n := n) (hh := by norm_num) (hk := by norm_num) ..) (fun n => runA_ws (k := 1024) (n := n) (hk := by norm_num) ..)
  refine List.forall_mem_cons.2 ⟨?_, ?_⟩
  · exact block_good x0 x1 x2 x3 768 inb_S512x5632_S512x256_0_768 (by norm_num) _ _ _ _ _ _ (fun r => runA_r (r := r) ..) (fun r k => runA_qa (r := r) (k := k) ..) (fun r k => runA_qb (r := r) (k := k) ..) (fun j n => runA_w (h := 0) (k := 768) (j := j) (n := n) (hh := by norm_num) (hk := by norm_num) ..) (fun j n => runA_w (h := 1024) (k := 768) (j := j) (n := n) (hh := by norm_num) (hk := by norm_num) ..) (fun n => runA_ws (k := 768) (n := n) (hk := by norm_num) ..)
  refine List.forall_mem_cons.2 ⟨?_, ?_⟩
  · exact block_good x0 x1 x2 x3 512 inb_S512x5632_S512x256_0_512 (by norm_num) _ _ _ _ _ _ (fun r => runA_r (r := r) ..) (fun r k => runA_qa (r := r) (k := k) ..) (fun r k => runA_qb (r := r) (k := k) ..) (fun j n => runA_w (h := 0) (k := 512) (j := j) (n := n) (hh := by norm_num) (hk := by norm_num) ..) (fun j n => runA_w (h := 1024) (k := 512) (j := j) (n := n) (hh := by norm_num) (hk := by norm_num) ..) (fun n => runA_ws (k := 512) (n := n) (hk := by norm_num) ..)
  refine List.forall_mem_cons.2 ⟨?_, ?_⟩
  · exact block_good x0 x1 x2 x3 256 inb_S512x5632_S512x256_0_256 (by norm_num) _ _ _ _ _ _ (fun r => runA_r (r := r) ..) (fun r k => runA_qa (r := r) (k := k) ..) (fun r k => runA_qb (r := r) (k := k) ..) (fun j n => runA_w (h := 0) (k := 256) (j := j) (n := n) (hh := by norm_num) (hk := by norm_num) ..) (fun j n => runA_w (h := 1024) (k := 256) (j := j) (n := n) (hh := by norm_num) (hk := by norm_num) ..) (fun n => runA_ws (k := 256) (n := n) (hk := by norm_num) ..)
  refine List.forall_mem_cons.2 ⟨?_, ?_⟩
  · exact block_good x0 x1 x2 x3 0 inb_S512x5632_S512x256_0_0 (by norm_num) _ _ _ _ _ _ (fun r => runA_r (r := r) ..) (fun r k => runA_qa (r := r) (k := k) ..) (fun r k => runA_qb (r := r) (k := k) ..) (fun j n => runA_w (h := 0) (k := 0) (j := j) (n := n) (hh := by norm_num) (hk := by norm_num) ..) (fun j n => runA_w (h := 1024) (k := 0) (j := j) (n := n) (hh := by norm_num) (hk := by norm_num) ..) (fun n => runA_ws (k := 0) (n := n) (hk := by norm_num) ..)
  intro p hp; exact absurd hp List.not_mem_nil

/-- The codes' store leaves the block of the codes. -/
theorem runA_c (f : arg6.view.ty.Contents (Elt Ideal)) :
    View.read (Elt Ideal) arg6.view (arg6.view.writes (Elt Ideal) f (kernelRun0_A c i arg1 harg1 arg2 harg2 arg3 harg3 arg4 harg4 arg5 harg5 arg6 harg6 arg7 harg7 arg8 harg8 arg9 harg9 hc0 x0 x1 x2 x3 d6).2.1) = k0_pay4 x0 x1 := by
  unfold kernelRun0_A
  try dsimp only
  rw [View.read_writes_full, read_whole, read_whole]

/-- The scratch is left at the weights as 16-bit floats. -/
theorem runA_wb (f : arg8.view.ty.Contents (Elt Ideal)) :
    View.read (Elt Ideal) arg8.view (arg8.view.writes (Elt Ideal) f (kernelRun0_A c i arg1 harg1 arg2 harg2 arg3 harg3 arg4 harg4 arg5 harg5 arg6 harg6 arg7 harg7 arg8 harg8 arg9 harg9 hc0 x0 x1 x2 x3 d6).2.2.2.1) = k0_pay1 x2 := by
  unfold kernelRun0_A kernelRun0_A.sl.HS0_1
  try dsimp only
  rw [View.read_writes_full, read_whole]

/-- The scales' array after the four masked stores: an entry whose row-group is one of this point's four reads the scale of
    its row, any other entry what was there. -/
theorem runA_s (a : Fin 8) (s : Fin 1920) :
    (kernelRun0_A c i arg1 harg1 arg2 harg2 arg3 harg3 arg4 harg4 arg5 harg5 arg6 harg6 arg7 harg7 arg8 harg8 arg9 harg9 hc0 x0 x1 x2 x3 d6).2.2.1 (ix2 a s)
      = if h : 512 * (i 0).val ≤ 1920 * a.val + s.val ∧ 1920 * a.val + s.val < 512 * (i 0).val + 512 then
          scl (krow x0 x1 ⟨1920 * a.val + s.val - 512 * (i 0).val, by omega⟩)
        else d6 (ix2 a s) := by
  unfold kernelRun0_A
  try dsimp only
  refine four_apply x0 x1 arg7 harg7 d6 i _ _ _ _ _ _ _ _ ?_ ?_ ?_ ?_ _ rfl _ rfl _ rfl _ rfl a s
  · exact fun a l => by unfold kernelRun0_A.sl.r_1; rw [read_whole, read_whole, g0_apply, pay3_apply]
  · exact fun a l => by unfold kernelRun0_A.sl.r_2; rw [g1_apply, runA_r]
  · exact fun a l => by unfold kernelRun0_A.sl.r_3; rw [g2_apply, runA_r]
  · exact fun a l => by unfold kernelRun0_A.sl.r_4; rw [g3_apply, runA_r]

end

end Cert.KernelIdeal.Val

end
-- ==== Proof.RunB.lean ====
/- The kernel's whole body run once, at a later point (the scratch copy of the weights is found, and left). -/
module

public import proofs.«01_k».proof.Proof.RunA

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The kernel's body at a later point (the scratch copy of the weights is found, and left): on whole staging memrefs — the inputs at their contents, the scales' array
    at `d6`, the other outputs at anything — it runs to the continuation holding the inputs as they were and
    what its stores left: the product's and the codes' buffers and the scratch as lists of pieces (last first),
    the scales' array at the named contents `G6`. -/
def kernelRun0_B (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : ¬cond0_0 i)
    (x0 : Vec F S512x2048 .bf16) (x1 : Vec F S1x2048 .f32) (x2 : Vec F S2048x5632 .i8) (x3 : Vec F S1x5632 .f32) (d6 : Vec F S8x1920 .f32) (xs0 : Vec F S2048x5632 .bf16) :
    Σ' (L4 : List (View.Piece (Elt F) S512x5632 .bf16)), Σ' (L5 : List (View.Piece (Elt F) S512x2048 .i8)), Σ' (G6 : Vec F S8x1920 .f32), Σ' (LS0 : List (View.Piece (Elt F) S2048x5632 .bf16)), { LT1 : List (View.Piece (Elt F) S512x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6 ∗ owns (c : Thread nD τ) arg8 fullShare xs0 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare G6 ∗ owns (c : Thread nD τ) arg8 fullShare xs0 ∗ (∃ f, arg9.view.loc (c : Thread nD τ) ↦[arg9.view.set]{fullShare} arg9.view.writes (Elt F) f LT1)) -∗ K ⟨⟩))
          ⊢ wp frame (wpE (defs₀ (F := F)) Variants.none c none) E (cc0_w8a8_linear i arg1 harg1 arg2 harg2 arg3 harg3 arg4 harg4 arg5 harg5 arg6 harg6 arg7 harg7 arg8 harg8 arg9 harg9) K } := by
  refine ⟨?_, ?_, ?_, [], ?_, fun E K => ?run⟩
  case run =>
    simp only [cc0_w8a8_linear_eq_skeleton]; unfold cc0_w8a8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; swap; · iexact H6
      ipureintro; rfl
    isplitl [HS0]
    · iexists _; isplitr; · ipureintro; exact harg8.read_unread _
      iexact HS0
    iexists _; iexact HS1

end Cert.KernelIdeal.Val

end
-- ==== Proof.FormB.lean ====
/- What the body leaves at a later point, over the extended reals: the product's block, the codes' block, the scales' array. -/
module

public import proofs.«01_k».proof.Proof.RunB
public import proofs.«01_k».proof.Proof.Forms

@[expose] public section

set_option maxRecDepth 16384

noncomputable section

namespace Cert.KernelIdeal.Val

open Cert.Lin Cert.KernelIdeal Cert.KernelIdeal.Gen
open Idealize.ShloMosaic Idealize.ShloMosaic.ValueIdx

section
variable (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : ¬cond0_0 i)
    (x0 : Vec Ideal S512x2048 .bf16) (x1 : Vec Ideal S1x2048 .f32) (x2 : Vec Ideal S2048x5632 .i8) (x3 : Vec Ideal S1x5632 .f32) (d6 : Vec Ideal S8x1920 .f32)

/-- The row scales the run computes. -/
theorem runB_r (r : Fin 512) : kernelRun0_B.sl.r (F := Ideal) c arg1 harg1 arg2 harg2 x0 x1 (ix2 r 0) = scl (krow x0 x1 r) := by
  unfold kernelRun0_B.sl.r
  rw [read_whole, read_whole, pay3_apply]

/-- The lower half of the codes the run reads back. -/
theorem runB_qa (r : Fin 512) (k : Fin 1024) :
    kernelRun0_B.sl.v208 (F := Ideal) c arg1 harg1 arg2 harg2 arg9 x0 x1 (ix2 r k) = ofI (k0_pay4 x0 x1 (ix2 r ⟨0 + k.val, by omega⟩)).toInt := by
  unfold kernelRun0_B.sl.v208 kernelRun0_B.sl.HS1_1
  rw [readCov_apply _ (by decide), read_whole, read_whole]
  have e : (Rect.unit (s := S512x2048) ![0, 0] S512x1024.size inb_S512x2048_S512x1024_0_0).emb (ix2 r k) = ix2 r ⟨0 + k.val, by omega⟩ := by
    funext a; apply Fin.ext
    match a with
    | ⟨0, _⟩ => show 0 + 1 * r.val = r.val; omega
    | ⟨1, _⟩ => show 0 + 1 * k.val = 0 + k.val; omega
  exact (congrArg (k0_pay5 x0 x1) e).trans (pay5_apply x0 x1 r _)

/-- The upper half of the codes the run reads back. -/
theorem runB_qb (r : Fin 512) (k : Fin 1024) :
    kernelRun0_B.sl.v211 (F := Ideal) c arg1 harg1 arg2 harg2 arg9 x0 x1 (ix2 r k) = ofI (k0_pay4 x0 x1 (ix2 r ⟨1024 + k.val, by omega⟩)).toInt := by
  unfold kernelRun0_B.sl.v211 kernelRun0_B.sl.HS1_1
  rw [readCov_apply _ (by decide), read_whole, read_whole]
  have e : (Rect.unit (s := S512x2048) ![0, 1024] S512x1024.size inb_S512x2048_S512x1024_0_1024).emb (ix2 r k) = ix2 r ⟨1024 + k.val, by omega⟩ := by
    funext a; apply Fin.ext
    match a with
    | ⟨0, _⟩ => show 0 + 1 * r.val = r.val; omega
    | ⟨1, _⟩ => show 1024 + 1 * k.val = 1024 + k.val; omega
  exact (congrArg (k0_pay5 x0 x1) e).trans (pay5_apply x0 x1 r _)

/-- A block of the weights' scratch copy, carried from the first point. -/
theorem runB_w (h k : ℕ) (inb : ∀ a, (![h, k] : Fin 2 → ℕ) a + (![1024, 256] : Fin 2 → ℕ) a ≤ S2048x5632.size a) (j : Fin 1024) (n : Fin 256)
    (hh : h + 1024 ≤ 2048) (hk : k + 256 ≤ 5632) :
    View.readAt (Elt Ideal) arg8.view (Rect.unit (s := S2048x5632) ![h, k] ![1024, 256] inb).toLoadRect (harg8.unread (k0_pay1 x2)) (ix2 j n)
      = ofI (x2 (ix2 ⟨h + j.val, by omega⟩ ⟨k + n.val, by omega⟩)).toInt := by
  refine (Memref.IsWhole.readAt_unread (Val := Elt Ideal) harg8 (k0_pay1 x2) (Rect.unit (s := S2048x5632) ![h, k] ![1024, 256] inb).toLoadRect (ix2 j n)).trans ?_
  rw [pay1_apply]
  refine congrArg (fun i : S2048x5632.Idx => ofI (BitVec.toInt (x2 i))) ?_
  funext a; apply Fin.ext
  match a with
  | ⟨0, _⟩ => show h + 1 * j.val = h + j.val; omega
  | ⟨1, _⟩ => show k + 1 * n.val = k + n.val; omega

/-- A block of the weights' column scales. -/
theorem runB_ws (k : ℕ) (inb : ∀ a, (![0, k] : Fin 2 → ℕ) a + (![1, 256] : Fin 2 → ℕ) a ≤ S1x5632.size a) (n : Fin 256) (hk : k + 256 ≤ 5632) :
    View.readAt (Elt Ideal) arg4.view (Rect.unit (s := S1x5632) ![0, k] ![1, 256] inb).toLoadRect (harg4.unread x3) (ix2 0 n) = x3 (ix2 0 ⟨k + n.val, by omega⟩) := by
  refine (Memref.IsWhole.readAt_unread (Val := Elt Ideal) harg4 x3 (Rect.unit (s := S1x5632) ![0, k] ![1, 256] inb).toLoadRect (ix2 0 n)).trans (congrArg x3 ?_)
  funext a; apply Fin.ext
  match a with
  | ⟨0, _⟩ => rfl
  | ⟨1, _⟩ => show k + 1 * n.val = k + n.val; omega

/-- Column tile 1 of the product is computed by the first tile's function. -/
theorem runB_p19 : @k0_pay19 Ideal _ = k0_pay18 := rfl
/-- Column tile 2 of the product is computed by the first tile's function. -/
theorem runB_p20 : @k0_pay20 Ideal _ = k0_pay18 := rfl
/-- Column tile 3 of the product is computed by the first tile's function. -/
theorem runB_p21 : @k0_pay21 Ideal _ = k0_pay18 := rfl
/-- Column tile 4 of the product is computed by the first tile's function. -/
theorem runB_p22 : @k0_pay22 Ideal _ = k0_pay18 := rfl
/-- Column tile 5 of the product is computed by the first tile's function. -/
theorem runB_p23 : @k0_pay23 Ideal _ = k0_pay18 := rfl
/-- Column tile 6 of the product is computed by the first tile's function. -/
theorem runB_p24 : @k0_pay24 Ideal _ = k0_pay18 := rfl
/-- Column tile 7 of the product is computed by the first tile's function. -/
theorem runB_p25 : @k0_pay25 Ideal _ = k0_pay18 := rfl
/-- Column tile 8 of the product is computed by the first tile's function. -/
theorem runB_p26 : @k0_pay26 Ideal _ = k0_pay18 := rfl
/-- Column tile 9 of the product is computed by the first tile's function. -/
theorem runB_p27 : @k0_pay27 Ideal _ = k0_pay18 := rfl
/-- Column tile 10 of the product is computed by the first tile's function. -/
theorem runB_p28 : @k0_pay28 Ideal _ = k0_pay18 := rfl
/-- Column tile 11 of the product is computed by the first tile's function. -/
theorem runB_p29 : @k0_pay29 Ideal _ = k0_pay18 := rfl
/-- Column tile 12 of the product is computed by the first tile's function. -/
theorem runB_p30 : @k0_pay30 Ideal _ = k0_pay18 := rfl
/-- Column tile 13 of the product is computed by the first tile's function. -/
theorem runB_p31 : @k0_pay31 Ideal _ = k0_pay18 := rfl
/-- Column tile 14 of the product is computed by the first tile's function. -/
theorem runB_p32 : @k0_pay32 Ideal _ = k0_pay18 := rfl
/-- Column tile 15 of the product is computed by the first tile's function. -/
theorem runB_p33 : @k0_pay33 Ideal _ = k0_pay18 := rfl
/-- Column tile 16 of the product is computed by the first tile's function. -/
theorem runB_p34 : @k0_pay34 Ideal _ = k0_pay18 := rfl
/-- Column tile 17 of the product is computed by the first tile's function. -/
theorem runB_p35 : @k0_pay35 Ideal _ = k0_pay18 := rfl
/-- Column tile 18 of the product is computed by the first tile's function. -/
theorem runB_p36 : @k0_pay36 Ideal _ = k0_pay18 := rfl
/-- Column tile 19 of the product is computed by the first tile's function. -/
theorem runB_p37 : @k0_pay37 Ideal _ = k0_pay18 := rfl
/-- Column tile 20 of the product is computed by the first tile's function. -/
theorem runB_p38 : @k0_pay38 Ideal _ = k0_pay18 := rfl
/-- Column tile 21 of the product is computed by the first tile's function. -/
theorem runB_p39 : @k0_pay39 Ideal _ = k0_pay18 := rfl

/-- The product's stores leave the block of the product, whatever was there before. -/
theorem runB_y (f : arg5.view.ty.Contents (Elt Ideal)) :
    View.read (Elt Ideal) arg5.view (arg5.view.writes (Elt Ideal) f (kernelRun0_B c i arg1 harg1 arg2 harg2 arg3 harg3 arg4 harg4 arg5 harg5 arg6 harg6 arg7 harg7 arg8 harg8 arg9 harg9 hc0 x0 x1 x2 x3 d6 (k0_pay1 x2)).1) = yblk x0 x1 x2 x3 := by
  funext y
  refine View.read_writes_apply_of_pieces _ _ (yblk x0 x1 x2 x3) _ ?_ y (View.cover_of_tiled _ ![512, 256] (by rfl) y)
  unfold kernelRun0_B
  try dsimp only
  simp only [runB_p19, runB_p20, runB_p21, runB_p22, runB_p23, runB_p24, runB_p25, runB_p26, runB_p27, runB_p28, runB_p29, runB_p30, runB_p31, runB_p32, runB_p33, runB_p34, runB_p35, runB_p36, runB_p37, runB_p38, runB_p39]
  refine List.forall_mem_cons.2 ⟨?_, ?_⟩
  · exact block_good x0 x1 x2 x3 5376 inb_S512x5632_S512x256_0_5376 (by norm_num) _ _ _ _ _ _ (fun r => runB_r (r := r) ..) (fun r k => runB_qa (r := r) (k := k) ..) (fun r k => runB_qb (r := r) (k := k) ..) (fun j n => runB_w (h := 0) (k := 5376) (j := j) (n := n) (hh := by norm_num) (hk := by norm_num) ..) (fun j n => runB_w (h := 1024) (k := 5376) (j := j) (n := n) (hh := by norm_num) (hk := by norm_num) ..) (fun n => runB_ws (k := 5376) (n := n) (hk := by norm_num) ..)
  refine List.forall_mem_cons.2 ⟨?_, ?_⟩
  · exact block_good x0 x1 x2 x3 5120 inb_S512x5632_S512x256_0_5120 (by norm_num) _ _ _ _ _ _ (fun r => runB_r (r := r) ..) (fun r k => runB_qa (r := r) (k := k) ..) (fun r k => runB_qb (r := r) (k := k) ..) (fun j n => runB_w (h := 0) (k := 5120) (j := j) (n := n) (hh := by norm_num) (hk := by norm_num) ..) (fun j n => runB_w (h := 1024) (k := 5120) (j := j) (n := n) (hh := by norm_num) (hk := by norm_num) ..) (fun n => runB_ws (k := 5120) (n := n) (hk := by norm_num) ..)
  refine List.forall_mem_cons.2 ⟨?_, ?_⟩
  · exact block_good x0 x1 x2 x3 4864 inb_S512x5632_S512x256_0_4864 (by norm_num) _ _ _ _ _ _ (fun r => runB_r (r := r) ..) (fun r k => runB_qa (r := r) (k := k) ..) (fun r k => runB_qb (r := r) (k := k) ..) (fun j n => runB_w (h := 0) (k := 4864) (j := j) (n := n) (hh := by norm_num) (hk := by norm_num) ..) (fun j n => runB_w (h := 1024) (k := 4864) (j := j) (n := n) (hh := by norm_num) (hk := by norm_num) ..) (fun n => runB_ws (k := 4864) (n := n) (hk := by norm_num) ..)
  refine List.forall_mem_cons.2 ⟨?_, ?_⟩
  · exact block_good x0 x1 x2 x3 4608 inb_S512x5632_S512x256_0_4608 (by norm_num) _ _ _ _ _ _ (fun r => runB_r (r := r) ..) (fun r k => runB_qa (r := r) (k := k) ..) (fun r k => runB_qb (r := r) (k := k) ..) (fun j n => runB_w (h := 0) (k := 4608) (j := j) (n := n) (hh := by norm_num) (hk := by norm_num) ..) (fun j n => runB_w (h := 1024) (k := 4608) (j := j) (n := n) (hh := by norm_num) (hk := by norm_num) ..) (fun n => runB_ws (k := 4608) (n := n) (hk := by norm_num) ..)
  refine List.forall_mem_cons.2 ⟨?_, ?_⟩
  · exact block_good x0 x1 x2 x3 4352 inb_S512x5632_S512x256_0_4352 (by norm_num) _ _ _ _ _ _ (fun r => runB_r (r := r) ..) (fun r k => runB_qa (r := r) (k := k) ..) (fun r k => runB_qb (r := r) (k := k) ..) (fun j n => runB_w (h := 0) (k := 4352) (j := j) (n := n) (hh := by norm_num) (hk := by norm_num) ..) (fun j n => runB_w (h := 1024) (k := 4352) (j := j) (n := n) (hh := by norm_num) (hk := by norm_num) ..) (fun n => runB_ws (k := 4352) (n := n) (hk := by norm_num) ..)
  refine List.forall_mem_cons.2 ⟨?_, ?_⟩
  · exact block_good x0 x1 x2 x3 4096 inb_S512x5632_S512x256_0_4096 (by norm_num) _ _ _ _ _ _ (fun r => runB_r (r := r) ..) (fun r k => runB_qa (r := r) (k := k) ..) (fun r k => runB_qb (r := r) (k := k) ..) (fun j n => runB_w (h := 0) (k := 4096) (j := j) (n := n) (hh := by norm_num) (hk := by norm_num) ..) (fun j n => runB_w (h := 1024) (k := 4096) (j := j) (n := n) (hh := by norm_num) (hk := by norm_num) ..) (fun n => runB_ws (k := 4096) (n := n) (hk := by norm_num) ..)
  refine List.forall_mem_cons.2 ⟨?_, ?_⟩
  · exact block_good x0 x1 x2 x3 3840 inb_S512x5632_S512x256_0_3840 (by norm_num) _ _ _ _ _ _ (fun r => runB_r (r := r) ..) (fun r k => runB_qa (r := r) (k := k) ..) (fun r k => runB_qb (r := r) (k := k) ..) (fun j n => runB_w (h := 0) (k := 3840) (j := j) (n := n) (hh := by norm_num) (hk := by norm_num) ..) (fun j n => runB_w (h := 1024) (k := 3840) (j := j) (n := n) (hh := by norm_num) (hk := by norm_num) ..) (fun n => runB_ws (k := 3840) (n := n) (hk := by norm_num) ..)
  refine List.forall_mem_cons.2 ⟨?_, ?_⟩
  · exact block_good x0 x1 x2 x3 3584 inb_S512x5632_S512x256_0_3584 (by norm_num) _ _ _ _ _ _ (fun r => runB_r (r := r) ..) (fun r k => runB_qa (r := r) (k := k) ..) (fun r k => runB_qb (r := r) (k := k) ..) (fun j n => runB_w (h := 0) (k := 3584) (j := j) (n := n) (hh := by norm_num) (hk := by norm_num) ..) (fun j n => runB_w (h := 1024) (k := 3584) (j := j) (n := n) (hh := by norm_num) (hk := by norm_num) ..) (fun n => runB_ws (k := 3584) (n := n) (hk := by norm_num) ..)
  refine List.forall_mem_cons.2 ⟨?_, ?_⟩
  · exact block_good x0 x1 x2 x3 3328 inb_S512x5632_S512x256_0_3328 (by norm_num) _ _ _ _ _ _ (fun r => runB_r (r := r) ..) (fun r k => runB_qa (r := r) (k := k) ..) (fun r k => runB_qb (r := r) (k := k) ..) (fun j n => runB_w (h := 0) (k := 3328) (j := j) (n := n) (hh := by norm_num) (hk := by norm_num) ..) (fun j n => runB_w (h := 1024) (k := 3328) (j := j) (n := n) (hh := by norm_num) (hk := by norm_num) ..) (fun n => runB_ws (k := 3328) (n := n) (hk := by norm_num) ..)
  refine List.forall_mem_cons.2 ⟨?_, ?_⟩
  · exact block_good x0 x1 x2 x3 3072 inb_S512x5632_S512x256_0_3072 (by norm_num) _ _ _ _ _ _ (fun r => runB_r (r := r) ..) (fun r k => runB_qa (r := r) (k := k) ..) (fun r k => runB_qb (r := r) (k := k) ..) (fun j n => runB_w (h := 0) (k := 3072) (j := j) (n := n) (hh := by norm_num) (hk := by norm_num) ..) (fun j n => runB_w (h := 1024) (k := 3072) (j := j) (n := n) (hh := by norm_num) (hk := by norm_num) ..) (fun n => runB_ws (k := 3072) (n := n) (hk := by norm_num) ..)
  refine List.forall_mem_cons.2 ⟨?_, ?_⟩
  · exact block_good x0 x1 x2 x3 2816 inb_S512x5632_S512x256_0_2816 (by norm_num) _ _ _ _ _ _ (fun r => runB_r (r := r) ..) (fun r k => runB_qa (r := r) (k := k) ..) (fun r k => runB_qb (r := r) (k := k) ..) (fun j n => runB_w (h := 0) (k := 2816) (j := j) (n := n) (hh := by norm_num) (hk := by norm_num) ..) (fun j n => runB_w (h := 1024) (k := 2816) (j := j) (n := n) (hh := by norm_num) (hk := by norm_num) ..) (fun n => runB_ws (k := 2816) (n := n) (hk := by norm_num) ..)
  refine List.forall_mem_cons.2 ⟨?_, ?_⟩
  · exact block_good x0 x1 x2 x3 2560 inb_S512x5632_S512x256_0_2560 (by norm_num) _ _ _ _ _ _ (fun r => runB_r (r := r) ..) (fun r k => runB_qa (r := r) (k := k) ..) (fun r k => runB_qb (r := r) (k := k) ..) (fun j n => runB_w (h := 0) (k := 2560) (j := j) (n := n) (hh := by norm_num) (hk := by norm_num) ..) (fun j n => runB_w (h := 1024) (k := 2560) (j := j) (n := n) (hh := by norm_num) (hk := by norm_num) ..) (fun n => runB_ws (k := 2560) (n := n) (hk := by norm_num) ..)
  refine List.forall_mem_cons.2 ⟨?_, ?_⟩
  · exact block_good x0 x1 x2 x3 2304 inb_S512x5632_S512x256_0_2304 (by norm_num) _ _ _ _ _ _ (fun r => runB_r (r := r) ..) (fun r k => runB_qa (r := r) (k := k) ..) (fun r k => runB_qb (r := r) (k := k) ..) (fun j n => runB_w (h := 0) (k := 2304) (j := j) (n := n) (hh := by norm_num) (hk := by norm_num) ..) (fun j n => runB_w (h := 1024) (k := 2304) (j := j) (n := n) (hh := by norm_num) (hk := by norm_num) ..) (fun n => runB_ws (k := 2304) (n := n) (hk := by norm_num) ..)
  refine List.forall_mem_cons.2 ⟨?_, ?_⟩
  · exact block_good x0 x1 x2 x3 2048 inb_S512x5632_S512x256_0_2048 (by norm_num) _ _ _ _ _ _ (fun r => runB_r (r := r) ..) (fun r k => runB_qa (r := r) (k := k) ..) (fun r k => runB_qb (r := r) (k := k) ..) (fun j n => runB_w (h := 0) (k := 2048) (j := j) (n := n) (hh := by norm_num) (hk := by norm_num) ..) (fun j n => runB_w (h := 1024) (k := 2048) (j := j) (n := n) (hh := by norm_num) (hk := by norm_num) ..) (fun n => runB_ws (k := 2048) (n := n) (hk := by norm_num) ..)
  refine List.forall_mem_cons.2 ⟨?_, ?_⟩
  · exact block_good x0 x1 x2 x3 1792 inb_S512x5632_S512x256_0_1792 (by norm_num) _ _ _ _ _ _ (fun r => runB_r (r := r) ..) (fun r k => runB_qa (r := r) (k := k) ..) (fun r k => runB_qb (r := r) (k := k) ..) (fun j n => runB_w (h := 0) (k := 1792) (j := j) (n := n) (hh := by norm_num) (hk := by norm_num) ..) (fun j n => runB_w (h := 1024) (k := 1792) (j := j) (n := n) (hh := by norm_num) (hk := by norm_num) ..) (fun n => runB_ws (k := 1792) (n := n) (hk := by norm_num) ..)
  refine List.forall_mem_cons.2 ⟨?_, ?_⟩
  · exact block_good x0 x1 x2 x3 1536 inb_S512x5632_S512x256_0_1536 (by norm_num) _ _ _ _ _ _ (fun r => runB_r (r := r) ..) (fun r k => runB_qa (r := r) (k := k) ..) (fun r k => runB_qb (r := r) (k := k) ..) (fun j n => runB_w (h := 0) (k := 1536) (j := j) (n := n) (hh := by norm_num) (hk := by norm_num) ..) (fun j n => runB_w (h := 1024) (k := 1536) (j := j) (n := n) (hh := by norm_num) (hk := by norm_num) ..) (fun n => runB_ws (k := 1536) (n := n) (hk := by norm_num) ..)
  refine List.forall_mem_cons.2 ⟨?_, ?_⟩
  · exact block_good x0 x1 x2 x3 1280 inb_S512x5632_S512x256_0_1280 (by norm_num) _ _ _ _ _ _ (fun r => runB_r (r := r) ..) (fun r k => runB_qa (r := r) (k := k) ..) (fun r k => runB_qb (r := r) (k := k) ..) (fun j n => runB_w (h := 0) (k := 1280) (j := j) (n := n) (hh := by norm_num) (hk := by norm_num) ..) (fun j n => runB_w (h := 1024) (k := 1280) (j := j) (n := n) (hh := by norm_num) (hk := by norm_num) ..) (fun n => runB_ws (k := 1280) (n := n) (hk := by norm_num) ..)
  refine List.forall_mem_cons.2 ⟨?_, ?_⟩
  · exact block_good x0 x1 x2 x3 1024 inb_S512x5632_S512x256_0_1024 (by norm_num) _ _ _ _ _ _ (fun r => runB_r (r := r) ..) (fun r k => runB_qa (r := r) (k := k) ..) (fun r k => runB_qb (r := r) (k := k) ..) (fun j n => runB_w (h := 0) (k := 1024) (j := j) (n := n) (hh := by norm_num) (hk := by norm_num) ..) (fun j n => runB_w (h := 1024) (k := 1024) (j := j) (n := n) (hh := by norm_num) (hk := by norm_num) ..) (fun n => runB_ws (k := 1024) (n := n) (hk := by norm_num) ..)
  refine List.forall_mem_cons.2 ⟨?_, ?_⟩
  · exact block_good x0 x1 x2 x3 768 inb_S512x5632_S512x256_0_768 (by norm_num) _ _ _ _ _ _ (fun r => runB_r (r := r) ..) (fun r k => runB_qa (r := r) (k := k) ..) (fun r k => runB_qb (r := r) (k := k) ..) (fun j n => runB_w (h := 0) (k := 768) (j := j) (n := n) (hh := by norm_num) (hk := by norm_num) ..) (fun j n => runB_w (h := 1024) (k := 768) (j := j) (n := n) (hh := by norm_num) (hk := by norm_num) ..) (fun n => runB_ws (k := 768) (n := n) (hk := by norm_num) ..)
  refine List.forall_mem_cons.2 ⟨?_, ?_⟩
  · exact block_good x0 x1 x2 x3 512 inb_S512x5632_S512x256_0_512 (by norm_num) _ _ _ _ _ _ (fun r => runB_r (r := r) ..) (fun r k => runB_qa (r := r) (k := k) ..) (fun r k => runB_qb (r := r) (k := k) ..) (fun j n => runB_w (h := 0) (k := 512) (j := j) (n := n) (hh := by norm_num) (hk := by norm_num) ..) (fun j n => runB_w (h := 1024) (k := 512) (j := j) (n := n) (hh := by norm_num) (hk := by norm_num) ..) (fun n => runB_ws (k := 512) (n := n) (hk := by norm_num) ..)
  refine List.forall_mem_cons.2 ⟨?_, ?_⟩
  · exact block_good x0 x1 x2 x3 256 inb_S512x5632_S512x256_0_256 (by norm_num) _ _ _ _ _ _ (fun r => runB_r (r := r) ..) (fun r k => runB_qa (r := r) (k := k) ..) (fun r k => runB_qb (r := r) (k := k) ..) (fun j n => runB_w (h := 0) (k := 256) (j := j) (n := n) (hh := by norm_num) (hk := by norm_num) ..) (fun j n => runB_w (h := 1024) (k := 256) (j := j) (n := n) (hh := by norm_num) (hk := by norm_num) ..) (fun n => runB_ws (k := 256) (n := n) (hk := by norm_num) ..)
  refine List.forall_mem_cons.2 ⟨?_, ?_⟩
  · exact block_good x0 x1 x2 x3 0 inb_S512x5632_S512x256_0_0 (by norm_num) _ _ _ _ _ _ (fun r => runB_r (r := r) ..) (fun r k => runB_qa (r := r) (k := k) ..) (fun r k => runB_qb (r := r) (k := k) ..) (fun j n => runB_w (h := 0) (k := 0) (j := j) (n := n) (hh := by norm_num) (hk := by norm_num) ..) (fun j n => runB_w (h := 1024) (k := 0) (j := j) (n := n) (hh := by norm_num) (hk := by norm_num) ..) (fun n => runB_ws (k := 0) (n := n) (hk := by norm_num) ..)
  intro p hp; exact absurd hp List.not_mem_nil

/-- The codes' store leaves the block of the codes. -/
theorem runB_c (f : arg6.view.ty.Contents (Elt Ideal)) :
    View.read (Elt Ideal) arg6.view (arg6.view.writes (Elt Ideal) f (kernelRun0_B c i arg1 harg1 arg2 harg2 arg3 harg3 arg4 harg4 arg5 harg5 arg6 harg6 arg7 harg7 arg8 harg8 arg9 harg9 hc0 x0 x1 x2 x3 d6 (k0_pay1 x2)).2.1) = k0_pay4 x0 x1 := by
  unfold kernelRun0_B
  try dsimp only
  rw [View.read_writes_full, read_whole, read_whole]

/-- The scales' array after the four masked stores: an entry whose row-group is one of this point's four reads the scale of
    its row, any other entry what was there. -/
theorem runB_s (a : Fin 8) (s : Fin 1920) :
    (kernelRun0_B c i arg1 harg1 arg2 harg2 arg3 harg3 arg4 harg4 arg5 harg5 arg6 harg6 arg7 harg7 arg8 harg8 arg9 harg9 hc0 x0 x1 x2 x3 d6 (k0_pay1 x2)).2.2.1 (ix2 a s)
      = if h : 512 * (i 0).val ≤ 1920 * a.val + s.val ∧ 1920 * a.val + s.val < 512 * (i 0).val + 512 then
          scl (krow x0 x1 ⟨1920 * a.val + s.val - 512 * (i 0).val, by omega⟩)
        else d6 (ix2 a s) := by
  unfold kernelRun0_B
  try dsimp only
  refine four_apply x0 x1 arg7 harg7 d6 i _ _ _ _ _ _ _ _ ?_ ?_ ?_ ?_ _ rfl _ rfl _ rfl _ rfl a s
  · exact fun a l => by unfold kernelRun0_B.sl.r_1; rw [read_whole, read_whole, g0_apply, pay3_apply]
  · exact fun a l => by unfold kernelRun0_B.sl.r_2; rw [g1_apply, runB_r]
  · exact fun a l => by unfold kernelRun0_B.sl.r_3; rw [g2_apply, runB_r]
  · exact fun a l => by unfold kernelRun0_B.sl.r_4; rw [g3_apply, runB_r]

end

end Cert.KernelIdeal.Val

end
-- ==== Proof.Triples.lean ====
/- The kernel's body at the first point and at a later point, over the extended reals, as one statement each: what the memrefs
   hold before it and after it. -/
module

public import proofs.«01_k».proof.Proof.FormA
public import proofs.«01_k».proof.Proof.FormB

@[expose] public section

set_option maxRecDepth 16384

noncomputable section

namespace Cert.KernelIdeal.Val

open Cert.Lin Cert.KernelIdeal Cert.KernelIdeal.Gen
open Idealize.ShloMosaic
open Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A memref held at contents that read `X` is owned at `X`. -/
theorem owns_of_pts (c : Dev nD) {s : Shape} {e : EltTy} (mm : Memref sig .tc .vmem s e) {X : s.Idx → Elt Ideal e} (f : BufTy.Contents (Elt Ideal) mm.view.ty)
    (h : View.read (Elt Ideal) mm.view f = X) :
    (mm.view.loc (c : Thread nD τ) ↦[mm.view.set]{fullShare} f : sProp 𝕄) ⊢ owns (c : Thread nD τ) mm fullShare X := by
  unfold owns
  iintro H
  iexists f
  isplitr
  · ipureintro; exact h
  iexact H

/-- The array `G` is `d6` with the scales of the block's 512 rows placed at the block's tokens. -/
def Placed (i : grid0.Coords) (x0 : Vec Ideal S512x2048 .bf16) (x1 : Vec Ideal S1x2048 .f32) (d6 G : Vec Ideal S8x1920 .f32) : Prop :=
  ∀ (a : Fin 8) (s : Fin 1920), G (ix2 a s) = if h : 512 * (i 0).val ≤ 1920 * a.val + s.val ∧ 1920 * a.val + s.val < 512 * (i 0).val + 512 then
    scl (krow x0 x1 ⟨1920 * a.val + s.val - 512 * (i 0).val, by omega⟩) else d6 (ix2 a s)

set_option maxHeartbeats 1600000 in
/-- The body at the first point: from the inputs at `x0 … x3` it leaves the product's block, the codes' block, the scales' array with this
    block's 512 scales placed, and the weights' copy in the first scratch buffer. -/
theorem triple_A (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : cond0_0 i)
    (x0 : Vec Ideal S512x2048 .bf16) (x1 : Vec Ideal S1x2048 .f32) (x2 : Vec Ideal S2048x5632 .i8) (x3 : Vec Ideal S1x5632 .f32) (d6 : Vec Ideal S8x1920 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yblk x0 x1 x2 x3) ∗ owns (c : Thread nD τ) arg6 fullShare (k0_pay4 x0 x1) ∗ (∃ G, ⌜Placed i x0 x1 d6 G⌝ ∗ owns (c : Thread nD τ) arg7 fullShare G) ∗ owns (c : Thread nD τ) arg8 fullShare (k0_pay1 x2) ∗ (∃ d, owns (c : Thread nD τ) arg9 fullShare d)) -∗ K ⟨⟩))
      ⊢ wp frame (wpE (defs₀ (F := Ideal)) Variants.none c none) E (cc0_w8a8_linear i arg1 harg1 arg2 harg2 arg3 harg3 arg4 harg4 arg5 harg5 arg6 harg6 arg7 harg7 arg8 harg8 arg9 harg9) K := by
  have hy := fun f => runA_y c i arg1 harg1 arg2 harg2 arg3 harg3 arg4 harg4 arg5 harg5 arg6 harg6 arg7 harg7 arg8 harg8 arg9 harg9 hc0 x0 x1 x2 x3 d6 f
  have hc := fun f => runA_c c i arg1 harg1 arg2 harg2 arg3 harg3 arg4 harg4 arg5 harg5 arg6 harg6 arg7 harg7 arg8 harg8 arg9 harg9 hc0 x0 x1 x2 x3 d6 f
  have hs := fun a s => runA_s c i arg1 harg1 arg2 harg2 arg3 harg3 arg4 harg4 arg5 harg5 arg6 harg6 arg7 harg7 arg8 harg8 arg9 harg9 hc0 x0 x1 x2 x3 d6 a s
  have hw := fun f => runA_wb c i arg1 harg1 arg2 harg2 arg3 harg3 arg4 harg4 arg5 harg5 arg6 harg6 arg7 harg7 arg8 harg8 arg9 harg9 hc0 x0 x1 x2 x3 d6 f
  revert hy hc hs hw
  generalize kernelRun0_A (F := Ideal) c i arg1 harg1 arg2 harg2 arg3 harg3 arg4 harg4 arg5 harg5 arg6 harg6 arg7 harg7 arg8 harg8 arg9 harg9 hc0 x0 x1 x2 x3 d6 = R
  obtain ⟨L4, L5, G6, LS0, LT1, h⟩ := R
  intro hy hc hs hw
  dsimp only at hy hc hs hw
  iintro ⟨H0, H1, H2, H3, H4, H5, H6, HS0, HS1, Hk⟩
  iapply (h E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%f4, H4⟩, ⟨%f5, H5⟩, H6, ⟨%fs0, HS0⟩, ⟨%fs1, HS1⟩⟩
  iapply Hk
  isplitl [H0]; · iexact H0
  isplitl [H1]; · iexact H1
  isplitl [H2]; · iexact H2
  isplitl [H3]; · iexact H3
  isplitl [H4]; · iapply (owns_of_pts c arg5 _ (hy f4)); iexact H4
  isplitl [H5]; · iapply (owns_of_pts c arg6 _ (hc f5)); iexact H5
  isplitl [H6]
  · iexists G6; isplitr
    · ipureintro; exact hs
    · iexact H6
  isplitl [HS0]
  · iapply (owns_of_pts c arg8 _ (hw fs0)); iexact HS0
  iexists _
  iapply (owns_of_pts c arg9 _ rfl)
  iexact HS1

set_option maxHeartbeats 1600000 in
/-- The body at a later point: from the inputs at `x0 … x3` it leaves the product's block, the codes' block, the scales' array with this
    block's 512 scales placed, and the weights' copy in the first scratch buffer. -/
theorem triple_B (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : ¬cond0_0 i)
    (x0 : Vec Ideal S512x2048 .bf16) (x1 : Vec Ideal S1x2048 .f32) (x2 : Vec Ideal S2048x5632 .i8) (x3 : Vec Ideal S1x5632 .f32) (d6 : Vec Ideal S8x1920 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6 ∗ owns (c : Thread nD τ) arg8 fullShare (k0_pay1 x2) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yblk x0 x1 x2 x3) ∗ owns (c : Thread nD τ) arg6 fullShare (k0_pay4 x0 x1) ∗ (∃ G, ⌜Placed i x0 x1 d6 G⌝ ∗ owns (c : Thread nD τ) arg7 fullShare G) ∗ owns (c : Thread nD τ) arg8 fullShare (k0_pay1 x2) ∗ (∃ d, owns (c : Thread nD τ) arg9 fullShare d)) -∗ K ⟨⟩))
      ⊢ wp frame (wpE (defs₀ (F := Ideal)) Variants.none c none) E (cc0_w8a8_linear i arg1 harg1 arg2 harg2 arg3 harg3 arg4 harg4 arg5 harg5 arg6 harg6 arg7 harg7 arg8 harg8 arg9 harg9) K := by
  have hy := fun f => runB_y c i arg1 harg1 arg2 harg2 arg3 harg3 arg4 harg4 arg5 harg5 arg6 harg6 arg7 harg7 arg8 harg8 arg9 harg9 hc0 x0 x1 x2 x3 d6 f
  have hc := fun f => runB_c c i arg1 harg1 arg2 harg2 arg3 harg3 arg4 harg4 arg5 harg5 arg6 harg6 arg7 harg7 arg8 harg8 arg9 harg9 hc0 x0 x1 x2 x3 d6 f
  have hs := fun a s => runB_s c i arg1 harg1 arg2 harg2 arg3 harg3 arg4 harg4 arg5 harg5 arg6 harg6 arg7 harg7 arg8 harg8 arg9 harg9 hc0 x0 x1 x2 x3 d6 a s
  revert hy hc hs
  generalize kernelRun0_B (F := Ideal) c i arg1 harg1 arg2 harg2 arg3 harg3 arg4 harg4 arg5 harg5 arg6 harg6 arg7 harg7 arg8 harg8 arg9 harg9 hc0 x0 x1 x2 x3 d6 (k0_pay1 x2) = R
  obtain ⟨L4, L5, G6, LS0, LT1, h⟩ := R
  intro hy hc hs
  dsimp only at hy hc hs
  iintro ⟨H0, H1, H2, H3, H4, H5, H6, HS0, HS1, Hk⟩
  iapply (h E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%f4, H4⟩, ⟨%f5, H5⟩, H6, HS0, ⟨%fs1, HS1⟩⟩
  iapply Hk
  isplitl [H0]; · iexact H0
  isplitl [H1]; · iexact H1
  isplitl [H2]; · iexact H2
  isplitl [H3]; · iexact H3
  isplitl [H4]; · iapply (owns_of_pts c arg5 _ (hy f4)); iexact H4
  isplitl [H5]; · iapply (owns_of_pts c arg6 _ (hc f5)); iexact H5
  isplitl [H6]
  · iexists G6; isplitr
    · ipureintro; exact hs
    · iexact H6
  isplitl [HS0]
  · iexact HS0
  iexists _
  iapply (owns_of_pts c arg9 _ rfl)
  iexact HS1

end Cert.KernelIdeal.Val

end
-- ==== Proof.Blocks.lean ====
/- The kernel's input blocks at coordinates: block `t` of the activations is their rows `512 t …`, the other operands' blocks
   are the whole arrays at every grid point. -/
module

public import proofs.«01_k».proof.Proof.Setup
public import proofs.«01_k».proof.Proof.Forms
public import Idealize.ShloMosaic.Lib.Pipeline.ValueKit

@[expose] public section

set_option maxRecDepth 16384

noncomputable section

namespace Cert.KernelIdeal.Val

open Cert.Lin Cert.KernelIdeal Cert.KernelIdeal.Gen
open Idealize.ShloMosaic hiding ix2
open Idealize.ShloMosaic.TcCoe Idealize.ShloMosaic.ValueIdx

/-- The block index of the activations at point `t`. -/
theorem idx0 : ∀ t : Fin cfg0.N, win0_0.index t = ![t.val, 0] := (by decide +kernel : ∀ t : Fin grid0.N, _)
/-- The block index of the column factors is constant. -/
theorem idx1 : ∀ t : Fin cfg0.N, win0_1.index t = ![0, 0] := (by decide +kernel : ∀ t : Fin grid0.N, _)
/-- The block index of the weights is constant. -/
theorem idx2 : ∀ t : Fin cfg0.N, win0_2.index t = ![0, 0] := (by decide +kernel : ∀ t : Fin grid0.N, _)
/-- The block index of the weights' scales is constant. -/
theorem idx3 : ∀ t : Fin cfg0.N, win0_3.index t = ![0, 0] := (by decide +kernel : ∀ t : Fin grid0.N, _)
/-- The block index of the product at point `t`. -/
theorem idx4 : ∀ t : Fin cfg0.N, win0_4.index t = ![t.val, 0] := (by decide +kernel : ∀ t : Fin grid0.N, _)
/-- The block index of the codes at point `t`. -/
theorem idx5 : ∀ t : Fin cfg0.N, win0_5.index t = ![t.val, 0] := (by decide +kernel : ∀ t : Fin grid0.N, _)
/-- The block index of the scales is constant. -/
theorem idx6 : ∀ t : Fin cfg0.N, win0_6.index t = ![0, 0] := (by decide +kernel : ∀ t : Fin grid0.N, _)

/-- A grid point is one of 30. -/
theorem lt30 (t : Fin cfg0.N) : t.val < 30 := lt_of_lt_of_eq t.isLt N_0

variable (m : (ℓ : Loc nD τ sig) → Buf (Elt Ideal) ℓ) (c : Dev nD)

/-- The activations as the pipeline finds them, one row per token. -/
def X0 : Vec Ideal S15360x2048 .bf16 := V m c main_v0
/-- The column factors as the pipeline finds them. -/
def X1 : Vec Ideal S1x2048 .f32 := V m c main_v1
/-- The weights as the pipeline finds them. -/
def X2 : Vec Ideal S2048x5632 .i8 := V m c main_arg2
/-- The weights' scales as the pipeline finds them. -/
def X3 : Vec Ideal S1x5632 .f32 := V m c main_v2

/-- Row `r` of the activations' block `t` is their row `512 t + r`. -/
theorem iblk0_apply (t : Fin cfg0.N) (r : Fin 512) (k : Fin 2048) :
    (iblk m c 0 t : Vec Ideal S512x2048 .bf16) (ix2 r k) = X0 m c (ix2 ⟨512 * t.val + r.val, by have := lt30 t; omega⟩ k) := by
  unfold X0
  blk_simp [iblk]
  refine congrArg (V m c main_v0) ?_
  funext a; apply Fin.ext
  match a with
  | ⟨0, _⟩ => blk_simp [idx0]; show t.val * 512 + r.val = 512 * t.val + r.val; omega
  | ⟨1, _⟩ => blk_simp [idx0]

/-- The block of the column factors is the whole array. -/
theorem iblk1_eq (t : Fin cfg0.N) : (iblk m c 1 t : Vec Ideal S1x2048 .f32) = X1 m c := by
  unfold X1
  funext y
  blk_simp [iblk]
  refine congrArg (V m c main_v1) ?_
  funext a; apply Fin.ext
  match a with
  | ⟨0, _⟩ => blk_simp [idx1]
  | ⟨1, _⟩ => blk_simp [idx1]

/-- The block of the weights is the whole array. -/
theorem iblk2_eq (t : Fin cfg0.N) : (iblk m c 2 t : Vec Ideal S2048x5632 .i8) = X2 m c := by
  unfold X2
  funext y
  blk_simp [iblk]
  refine congrArg (V m c main_arg2) ?_
  funext a; apply Fin.ext
  match a with
  | ⟨0, _⟩ => blk_simp [idx2]
  | ⟨1, _⟩ => blk_simp [idx2]

/-- The block of the weights' scales is the whole array. -/
theorem iblk3_eq (t : Fin cfg0.N) : (iblk m c 3 t : Vec Ideal S1x5632 .f32) = X3 m c := by
  unfold X3
  funext y
  blk_simp [iblk]
  refine congrArg (V m c main_v2) ?_
  funext a; apply Fin.ext
  match a with
  | ⟨0, _⟩ => blk_simp [idx3]
  | ⟨1, _⟩ => blk_simp [idx3]

end Cert.KernelIdeal.Val

end
-- ==== Proof.Launch.lean ====
/- The kernel run over its whole grid, over the extended reals: what every point leaves in each output's block, the weights'
   copy carried in scratch from the first point, the array of scales filled 512 at a time. -/
module

public import proofs.«01_k».proof.Proof.Spec
public import proofs.«01_k».proof.Proof.Triples
public import proofs.«01_k».proof.Proof.Blocks
public import Idealize.ShloMosaic.Lib.Claim
public import Idealize.ShloMosaic.Lib.Pipeline.DatRel

@[expose] public section

set_option maxRecDepth 16384

noncomputable section

namespace Cert.KernelIdeal.Val

open Cert.Lin Cert.KernelIdeal Cert.KernelIdeal.Gen
open Idealize.ShloMosaic hiding ix2
open Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the arrays hold, as functions of the operands -/

/-- A token's activations times the column factors, of the operands as the pipeline finds them. -/
abbrev grow (c : Dev nD) (R : Fin 15360) : Fin 2048 → EReal := lrow (X0 m c) (X1 m c) R

/-- Row `r` of block `t` is token `512 t + r`. -/
theorem krow_iblk (c : Dev nD) (t : Fin cfg0.N) (r : Fin 512) :
    krow (iblk m c 0 t) (iblk m c 1 t) r = grow m c ⟨512 * t.val + r.val, by have := lt30 t; omega⟩ := by
  funext k
  unfold krow grow lrow
  rw [iblk0_apply, iblk1_eq]

/-- The scales known after point `t`: those of the tokens in the blocks up to `t`. -/
def Filled (c : Dev nD) (n : ℕ) (X : Vec Ideal S8x1920 .f32) : Prop :=
  ∀ (a : Fin 8) (s : Fin 1920), 1920 * a.val + s.val < 512 * n → X (ix2 a s) = scl (grow m c ⟨1920 * a.val + s.val, by omega⟩)

/-! ## The scratch carried between points -/

/-- What the kernel holds beside its windows between points: before the first point its scratch at anything, afterwards the
    weights' copy in the first scratch buffer; and the generator register. -/
def PhiS (c : Dev nD) : ℕ → sProp 𝕄
  | 0 => Pipeline.ΦA spec0 c
  | _ + 1 => iprop(iprop(owns (c : Thread nD τ) scM0_0 fullShare (k0_pay1 (X2 m c)) ∗ (∃ d, owns (c : Thread nD τ) scM0_1 fullShare d)) ∗ (∃ r, prngReg c r))

/-- Before a point that is not the first the scratch holds the weights' copy. -/
theorem PhiS_pos (c : Dev nD) (n : ℕ) (hz : n ≠ 0) :
    PhiS m c n = iprop(iprop(owns (c : Thread nD τ) scM0_0 fullShare (k0_pay1 (X2 m c)) ∗ (∃ d, owns (c : Thread nD τ) scM0_1 fullShare d)) ∗ (∃ r, prngReg c r)) := by
  cases n with
  | zero => exact absurd rfl hz
  | succ n => rfl

/-! ## The pipeline's proof data -/

/-- The proof data: the arrays as the region finds them, the inputs left in place, the outputs described by `Rl`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiS m c t.val
  q _ := fullShare
  owed _ := 0

/-- The windows whose contents are described by `Rl`: the three outputs. -/
def fgt : Fin 7 → Bool := fun w => w.val == 4 || w.val == 5 || w.val == 6

/-- What the body leaves in the outputs' blocks at point `t`: the product's block, the codes' block, and the array of scales
    right for every token up to this block. -/
def Rl (c : Dev nD) (w : Fin cfg0.W) (t : Fin cfg0.N) (X : (cfg0.win w).block.Idx → Elt Ideal (cfg0.win w).elt) : Prop :=
  match w with
  | ⟨4, _⟩ => X = yblk (iblk m c 0 t) (iblk m c 1 t) (iblk m c 2 t) (iblk m c 3 t)
  | ⟨5, _⟩ => X = k0_pay4 (F := Ideal) (iblk m c 0 t) (iblk m c 1 t)
  | ⟨6, _⟩ => Filled m c (t.val + 1) X
  | _ => True

/-- The relational reading of the proof data. -/
abbrev rdat (c : Dev nD) : Pipeline.RDat τ (Elt Ideal) Unit ℕ (UR sig nD τ) ℕ cfg0 c := (dats m 0 c).toRRel fgt (Rl m c)

/-- The arrays are as the pipeline finds them. -/
theorem A_eq (c : Dev nD) (w : Fin cfg0.W) : (dats m 0 c).A w = V m c (Pipeline.arrRef spec0 w) := by
  dsimp only [dats]

/-- The body leaves the block of the activations in place. -/
theorem after0_0 (c : Dev nD) (t : Fin cfg0.N) : (dats m 0 c).after 0 t = iblk m c 0 t := by dsimp only [dats]
/-- The body leaves the block of the column factors in place. -/
theorem after0_1 (c : Dev nD) (t : Fin cfg0.N) : (dats m 0 c).after 1 t = iblk m c 1 t := by dsimp only [dats]
/-- The body leaves the block of the weights in place. -/
theorem after0_2 (c : Dev nD) (t : Fin cfg0.N) : (dats m 0 c).after 2 t = iblk m c 2 t := by dsimp only [dats]
/-- The body leaves the block of the weights' scales in place. -/
theorem after0_3 (c : Dev nD) (t : Fin cfg0.N) : (dats m 0 c).after 3 t = iblk m c 3 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
/-- The body finds the block of the column factors. -/
theorem before0_1 (c : Dev nD) (t : Fin cfg0.N) (d) : (dats m 0 c).before 1 t d = iblk m c 1 t :=
  before0_1_of m (dats m 0 c) (A_eq m c 1) (after0_1 m c) t d
/-- The body finds the block of the weights. -/
theorem before0_2 (c : Dev nD) (t : Fin cfg0.N) (d) : (dats m 0 c).before 2 t d = iblk m c 2 t :=
  before0_2_of m (dats m 0 c) (A_eq m c 2) (after0_2 m c) t d
/-- The body finds the block of the weights' scales. -/
theorem before0_3 (c : Dev nD) (t : Fin cfg0.N) (d) : (dats m 0 c).before 3 t d = iblk m c 3 t :=
  before0_3_of m (dats m 0 c) (A_eq m c 3) (after0_3 m c) t d

/-- The invariant before point `t`. -/
theorem Phi_castSucc (c : Dev nD) (t : Fin cfg0.N) : (dats m 0 c).Φ t.castSucc = PhiS m c t.val := by
  dsimp only [dats]; rfl
/-- The invariant after point `t`. -/
theorem Phi_succ (c : Dev nD) (t : Fin cfg0.N) : (dats m 0 c).Φ t.succ = PhiS m c (t.val + 1) := by
  dsimp only [dats]; rfl

/-! ## The array of scales, point by point -/

/-- The scales' buffer is never fetched, -/
theorem fetch6 (t : Fin cfg0.N) : (cfg0.win 6).fetch t = false := rfl
/-- and is written back at the last point only. -/
theorem flush6 : ∀ t : Fin cfg0.N, t.val ≠ 29 → (cfg0.win 6).flush t = false := (by decide +kernel : ∀ t : Fin grid0.N, _)

/-- After the first point the scales' buffer is found right for every token of the earlier blocks. -/
theorem found6 (c : Dev nD) (t : Fin cfg0.N) (ht : t.val ≠ 0) (Y : Vec Ideal S8x1920 .f32) (h : (rdat m c).Finds 6 t Y) : Filled m c t.val Y := by
  rcases ((rdat m c).finds_of_pos (w := 6) (fetch6 t) ht Y).mp h with h | h
  · rw [flush6 ⟨t.val - 1, _⟩ (by have := lt30 t; show t.val - 1 ≠ 29; omega)] at h; cases h
  · have e : Filled m c (t.val - 1 + 1) Y := (dats m 0 c).toRRel_leaves (w := 6) (fgt := fgt) rfl h
    rwa [Nat.sub_add_cancel (Nat.pos_of_ne_zero ht)] at e

/-- Placing a block's 512 scales in an array right for the earlier blocks makes it right for this block too. -/
theorem filled_step (c : Dev nD) (t : Fin cfg0.N) (n : ℕ) (hn : n = t.val) (d G : Vec Ideal S8x1920 .f32) (hd : t.val ≠ 0 → Filled m c t.val d)
    (hG : ∀ (a : Fin 8) (s : Fin 1920), G (ix2 a s) = if h : 512 * n ≤ 1920 * a.val + s.val ∧ 1920 * a.val + s.val < 512 * n + 512 then
      scl (krow (iblk m c 0 t) (iblk m c 1 t) ⟨1920 * a.val + s.val - 512 * n, by omega⟩) else d (ix2 a s)) : Filled m c (t.val + 1) G := by
  subst hn
  intro a s h
  rw [hG]
  split
  · next h' =>
    rw [krow_iblk]
    refine congrArg (fun R => scl (grow m c R)) (Fin.ext ?_)
    show 512 * t.val + (1920 * a.val + s.val - 512 * t.val) = 1920 * a.val + s.val
    omega
  · next h' => exact hd (by omega) a s (by omega)

/-- The grid coordinate of point `t` is `t`. -/
theorem coord_val (t : Fin cfg0.N) : (grid0.coords t 0).val = t.val := by
  have e : (grid0.coords t 0).val = t.val / 1 % 30 := Pipeline.Grid.coords_val t 0 (by decide) rfl
  have := lt30 t
  rw [e, Nat.div_one]; omega

/-- The product's block is what `Rl` says of it, -/
theorem left4 (c : Dev nD) (t : Fin cfg0.N) : Rl m c 4 t (yblk (iblk m c 0 t) (iblk m c 1 t) (iblk m c 2 t) (iblk m c 3 t)) := rfl
/-- the codes' block likewise, -/
theorem left5 (c : Dev nD) (t : Fin cfg0.N) : Rl m c 5 t (k0_pay4 (F := Ideal) (iblk m c 0 t) (iblk m c 1 t)) := rfl
/-- and the array of scales with this block's scales placed. -/
theorem left6 (c : Dev nD) (t : Fin cfg0.N) (d G : Vec Ideal S8x1920 .f32) (hd : t.val ≠ 0 → Filled m c t.val d)
    (hG : Placed (grid0.coords t) (iblk m c 0 t) (iblk m c 1 t) d G) : Rl m c 6 t G :=
  filled_step m c t _ (coord_val t) d G hd hG

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X)
    ∗ (∃ X, ⌜Rl m c 6 t X⌝ ∗ owns (c : Thread nD τ) (ms0_6 t) fullShare X))

set_option maxHeartbeats 1600000 in
/-- The body at any point: the run applies to the blocks the windows hold, and what it leaves is what `Rl` says. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, Phi_castSucc, Phi_succ, PhiS_pos m c (t.val + 1) (Nat.succ_ne_zero _)]
  have hN := lt30 t
  by_cases h0 : t.val = 0
  · rw [h0, show PhiS m c 0 = Pipeline.ΦA spec0 c from rfl, PhiA0_eq]
    iintro ⟨⟨⟨HS0, HS1⟩, Hg⟩, Ho, ⟨%d0, H0⟩, ⟨%d1, H1⟩, ⟨%d2, H2⟩, ⟨%d3, H3⟩, ⟨%d4, -, H4⟩, ⟨%d5, -, H5⟩, ⟨%d6, -, H6⟩⟩
    iapply (triple_A c (grid0.coords t) _ (hs0_0 t) _ (hs0_1 t) _ (hs0_2 t) _ (hs0_3 t) _ (hs0_4 t) _ (hs0_5 t) _ (hs0_6 t) _ (Memref.isWhole_whole _) _ (Memref.isWhole_whole _) ((hcond0_0 t).mpr (by rw [h0])) (iblk m c 0 t) (iblk m c 1 t) (iblk m c 2 t) (iblk m c 3 t) d6 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS0]; · iexact HS0
    isplitl [HS1]; · iexact HS1
    iintro ⟨H0, H1, H2, H3, H4, H5, ⟨%G, %hG, H6⟩, HS0, HS1⟩
    isplitl [HS0 HS1 Hg]
    · isplitl [HS0 HS1]
      · isplitl [HS0]
        · rw [← iblk2_eq m c t]; iexact HS0
        iexact HS1
      iexact Hg
    isplitl [Ho]; · iexact Ho
    isplitl [H0]; · iexact H0
    isplitl [H1]; · iexact H1
    isplitl [H2]; · iexact H2
    isplitl [H3]; · iexact H3
    isplitl [H4]
    · iexists _; isplitr
      · ipureintro; exact left4 m c t
      · iexact H4
    isplitl [H5]
    · iexists _; isplitr
      · ipureintro; exact left5 m c t
      · iexact H5
    iexists G; isplitr
    · ipureintro; exact left6 m c t d6 G (fun h => absurd h0 h) hG
    · iexact H6
  · rw [PhiS_pos m c _ h0]
    iintro ⟨⟨⟨HS0, HS1⟩, Hg⟩, Ho, ⟨%d0, H0⟩, ⟨%d1, H1⟩, ⟨%d2, H2⟩, ⟨%d3, H3⟩, ⟨%d4, -, H4⟩, ⟨%d5, -, H5⟩, ⟨%d6, %h6, H6⟩⟩
    iapply (triple_B c (grid0.coords t) _ (hs0_0 t) _ (hs0_1 t) _ (hs0_2 t) _ (hs0_3 t) _ (hs0_4 t) _ (hs0_5 t) _ (hs0_6 t) _ (Memref.isWhole_whole _) _ (Memref.isWhole_whole _) (fun h => h0 (by have := (hcond0_0 t).mp h; omega)) (iblk m c 0 t) (iblk m c 1 t) (iblk m c 2 t) (iblk m c 3 t) d6 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS0]; · rw [iblk2_eq]; iexact HS0
    isplitl [HS1]; · iexact HS1
    iintro ⟨H0, H1, H2, H3, H4, H5, ⟨%G, %hG, H6⟩, HS0, HS1⟩
    isplitl [HS0 HS1 Hg]
    · isplitl [HS0 HS1]
      · isplitl [HS0]
        · rw [← iblk2_eq m c t]; iexact HS0
        iexact HS1
      iexact Hg
    isplitl [Ho]; · iexact Ho
    isplitl [H0]; · iexact H0
    isplitl [H1]; · iexact H1
    isplitl [H2]; · iexact H2
    isplitl [H3]; · iexact H3
    isplitl [H4]
    · iexists _; isplitr
      · ipureintro; exact left4 m c t
      · iexact H4
    isplitl [H5]
    · iexists _; isplitr
      · ipureintro; exact left5 m c t
      · iexact H5
    iexists G; isplitr
    · ipureintro; exact left6 m c t d6 G (fun h => found6 m c t h d6 h6) hG
    · iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : Pipeline.BodyObligationRel (dats m 0 c) (defs₀ (F := Ideal)) Variants.none () Set.univ fgt (Rl m c) := fun t => by
  rw [bigSep_W0, bigSep_W0, defs₀_row]
  exact triple_restated (sound_body m c t) rfl .rfl fun _ => .rfl

/-! ## The run -/

/-- The scratch at the launch meets the invariant at the first point. -/
theorem hin (c : Dev nD) : Pipeline.ΦA spec0 c ⊢ (rdat m c).Φ 0 := by
  rw [show (rdat m c).Φ 0 = Pipeline.ΦA spec0 c from rfl]

/-- The invariant after the last point gives the scratch back. -/
theorem hout (c : Dev nD) : (rdat m c).Φ (Fin.last cfg0.N) ⊢ Pipeline.ΦA spec0 c := by
  rw [show (rdat m c).Φ (Fin.last cfg0.N) = PhiS m c cfg0.N from rfl, PhiS_pos m c _ (by rw [show cfg0.N = 30 from N_0]; decide), PhiA0_eq]
  iintro ⟨⟨HS0, HS1⟩, Hg⟩
  isplitl [HS0 HS1]
  · isplitl [HS0]
    · iexists _; iexact HS0
    iexact HS1
  iexact Hg

set_option backward.isDefEq.respectTransparency.types false in
/-- The launch: every final state has every array of the pipeline at contents the proof data allow, every other unscoped buffer
    as the region found it, and every semaphore counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.RDat.FramePost (cfgs 0) (rdat m) (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (rdat m) (A_eq m) (run_main m ρ)

/-- The frame: the argument arrays end unchanged and every semaphore counter is zero again. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Val

end
-- ==== Proof.KernelValue.lean ====
/- The kernel's three result arrays after the run, over the extended reals, as functions of its operands. -/
module

public import proofs.«01_k».proof.Proof.Launch
public import Idealize.ShloMosaic.Lib.Pipeline.ArrRel
public import Idealize.ShloMosaic.Lib.Pipeline.ValueKit

@[expose] public section

set_option maxRecDepth 16384

noncomputable section

namespace Cert.KernelIdeal.Val

open Cert.Lin Cert.KernelIdeal Cert.KernelIdeal.Gen
open Idealize.ShloMosaic hiding ix2
open Idealize.ShloMosaic.TcCoe
open Idealize.ShloMosaic.ValueIdx (ix2)
open Idealize.SL.Sem

variable (m : (ℓ : Loc nD τ sig) → Buf (Elt Ideal) ℓ) (ρ : Dev nD → PrngReg)

/-- An entry of the product's block `t` is the product's entry at row `512 t + r`. -/
theorem yblk_apply (c : Dev nD) (t : Fin cfg0.N) (r : Fin 512) (n : Fin 5632) :
    yblk (iblk m c 0 t) (iblk m c 1 t) (iblk m c 2 t) (iblk m c 3 t) (ix2 r n)
      = product (X0 m c) (X1 m c) (X2 m c) (X3 m c) (ix2 ⟨512 * t.val + r.val, by have := lt30 t; omega⟩ n) := by
  show yval (fun k => k0_pay4 (iblk m c 0 t) (iblk m c 1 t) (ix2 r k)) (fun k => (iblk m c 2 t : Vec Ideal S2048x5632 .i8) (ix2 k n))
    (scl (krow (iblk m c 0 t) (iblk m c 1 t) r)) ((iblk m c 3 t : Vec Ideal S1x5632 .f32) (ix2 0 n)) = _
  have e : (fun k => k0_pay4 (F := Ideal) (iblk m c 0 t) (iblk m c 1 t) (ix2 r k))
      = fun k => code (krow (iblk m c 0 t) (iblk m c 1 t) r k) (scl (krow (iblk m c 0 t) (iblk m c 1 t) r)) :=
    funext fun k => pay4_apply _ _ r k
  rw [e, krow_iblk, iblk2_eq, iblk3_eq]
  rfl

/-- An entry of the codes' block `t` is the codes' entry at row `512 t + r`. -/
theorem cblk_apply (c : Dev nD) (t : Fin cfg0.N) (r : Fin 512) (k : Fin 2048) :
    k0_pay4 (F := Ideal) (iblk m c 0 t) (iblk m c 1 t) (ix2 r k)
      = codes (X0 m c) (X1 m c) (ix2 ⟨512 * t.val + r.val, by have := lt30 t; omega⟩ k) := by
  rw [pay4_apply, krow_iblk]
  rfl

/-- What any contents the run allows the product's array are: the product. -/
theorem final4 (c : Dev nD) (after : (w' : Fin cfg0.W) → Fin cfg0.N → (cfg0.win w').block.Idx → Elt Ideal (cfg0.win w').elt)
    (h : ∀ t : Fin cfg0.N, after 4 t = yblk (iblk m c 0 t) (iblk m c 1 t) (iblk m c 2 t) (iblk m c 3 t)) :
    ((rdat m c).withAfter after).arrAt 4 cfg0.N = product (X0 m c) (X1 m c) (X2 m c) (X3 m c) := by
  refine Pipeline.Dat.arrAt_eq_of_covers _ 4 _ (by decide +kernel) fun t hf y => ?_
  blk_simp
  rw [Pipeline.RDat.withAfter_after, h]
  obtain ⟨r, n, rfl⟩ : ∃ (r : Fin 512) (n : Fin 5632), y = ix2 r n := ⟨y 0, y 1, by funext a; match a with | ⟨0, _⟩ => rfl | ⟨1, _⟩ => rfl⟩
  refine (yblk_apply m c t r n).trans (congrArg (product (X0 m c) (X1 m c) (X2 m c) (X3 m c)) ?_)
  funext a; apply Fin.ext
  match a with
  | ⟨0, _⟩ => blk_simp [idx4]; show 512 * t.val + r.val = t.val * 512 + r.val; omega
  | ⟨1, _⟩ => blk_simp [idx4]

/-- What any contents the run allows the codes' array are: the codes. -/
theorem final5 (c : Dev nD) (after : (w' : Fin cfg0.W) → Fin cfg0.N → (cfg0.win w').block.Idx → Elt Ideal (cfg0.win w').elt)
    (h : ∀ t : Fin cfg0.N, after 5 t = k0_pay4 (F := Ideal) (iblk m c 0 t) (iblk m c 1 t)) :
    ((rdat m c).withAfter after).arrAt 5 cfg0.N = codes (X0 m c) (X1 m c) := by
  refine Pipeline.Dat.arrAt_eq_of_covers _ 5 _ (by decide +kernel) fun t hf y => ?_
  blk_simp
  rw [Pipeline.RDat.withAfter_after, h]
  obtain ⟨r, n, rfl⟩ : ∃ (r : Fin 512) (n : Fin 2048), y = ix2 r n := ⟨y 0, y 1, by funext a; match a with | ⟨0, _⟩ => rfl | ⟨1, _⟩ => rfl⟩
  refine (cblk_apply m c t r n).trans (congrArg (codes (X0 m c) (X1 m c)) ?_)
  funext a; apply Fin.ext
  match a with
  | ⟨0, _⟩ => blk_simp [idx5]; show 512 * t.val + r.val = t.val * 512 + r.val; omega
  | ⟨1, _⟩ => blk_simp [idx5]

/-- The last grid point. -/
def tlast : Fin cfg0.N := ⟨29, by rw [show cfg0.N = 30 from N_0]; decide⟩

/-- What any contents the run allows the scales' array are: the scales. -/
theorem final6 (c : Dev nD) (after : (w' : Fin cfg0.W) → Fin cfg0.N → (cfg0.win w').block.Idx → Elt Ideal (cfg0.win w').elt)
    (h : Filled m c 30 (after 6 tlast)) :
    ((rdat m c).withAfter after).arrAt 6 cfg0.N = scales (X0 m c) (X1 m c) := by
  refine Pipeline.Dat.arrAt_eq_of_after_last _ 6 tlast (by decide +kernel) _ fun j => ?_
  obtain ⟨a, s, rfl⟩ : ∃ (a : Fin 8) (s : Fin 1920), j = ix2 a s := ⟨j 0, j 1, by funext a; match a with | ⟨0, _⟩ => rfl | ⟨1, _⟩ => rfl⟩
  exact h a s (by omega)

/-- Every point writes the product's block back, -/
theorem flush4 : ∀ t : Fin cfg0.N, (cfg0.win 4).flush t = true := (by decide +kernel : ∀ t : Fin grid0.N, _)
/-- and the codes' block. -/
theorem flush5 : ∀ t : Fin cfg0.N, (cfg0.win 5).flush t = true := (by decide +kernel : ∀ t : Fin grid0.N, _)
/-- The last point writes the scales back. -/
theorem flush6_last : (cfg0.win 6).flush tlast = true := by decide +kernel

/-- THE KERNEL'S RESULTS: every run ends with the product, the codes and the scales of its operands, the arguments unchanged. -/
theorem results : θ_run defs (onTc (τ := τ) (main (F := Ideal))) ⟨m, fun _ => 0, ρ⟩ (fun r => ∀ c : Dev nD,
      r.2.mem ((c.tc : Thread nD τ).loc main_v3_0) = product (X0 m c) (X1 m c) (X2 m c) (X3 m c)
      ∧ r.2.mem ((c.tc : Thread nD τ).loc main_v3_1) = codes (X0 m c) (X1 m c)
      ∧ r.2.mem ((c.tc : Thread nD τ).loc main_v3_2) = scales (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  obtain ⟨after, hL, hA⟩ := Pipeline.RDat.FramePost.exists_exact h.1 c
  refine ⟨(hA 4).trans (final4 m c after fun t => ?_), (hA 5).trans (final5 m c after fun t => ?_), (hA 6).trans (final6 m c after ?_), h.2 c⟩
  · exact (dats m 0 c).toRRel_leaves (w := 4) (fgt := fgt) rfl (hL 4 t (flush4 t))
  · exact (dats m 0 c).toRRel_leaves (w := 5) (fgt := fgt) rfl (hL 5 t (flush5 t))
  · exact (dats m 0 c).toRRel_leaves (w := 6) (fgt := fgt) rfl (hL 6 tlast flush6_last)

end Cert.KernelIdeal.Val

end
-- ==== Proof.ReferenceRows.lean ====
/- The reference body's values, read at an index over the extended reals, as the row functions of `Rows`. -/
module

public import proofs.«01_k».proof.Proof.Rows
public import proofs.«01_k».proof.Proof.Gen.ReferenceIdeal
public import proofs.«01_k».proof.Proof.Gen.ReferenceIdeal.Skeleton
public import Idealize.ShloMosaic.Adequacy
public import Idealize.ShloMosaic.Init

@[expose] public section

set_option maxRecDepth 16384

noncomputable section

namespace Cert.ReferenceIdeal.Val

open Cert.Lin Cert.ReferenceIdeal Cert.ReferenceIdeal.Gen
open Idealize.ShloMosaic Idealize.ShloMosaic.ValueIdx

/-- One entry of the product from its four chunks' products: each converted to a 32-bit integer, the four added, the sum
    converted back and scaled by the row's and the column's scale. -/
theorem yval_of (q w : Fin 2048 → BitVec 8) (s ws a b c d : EReal)
    (ha : a = ofI (dotI (sub 0 512 (by omega) q) (sub 0 512 (by omega) w)))
    (hb : b = ofI (dotI (sub 512 512 (by omega) q) (sub 512 512 (by omega) w)))
    (hc : c = ofI (dotI (sub 1024 512 (by omega) q) (sub 1024 512 (by omega) w)))
    (hd : d = ofI (dotI (sub 1536 512 (by omega) q) (sub 1536 512 (by omega) w))) :
    ofI ((((0#32 + Ideal.fptosi 32 a) + Ideal.fptosi 32 b) + Ideal.fptosi 32 c) + Ideal.fptosi 32 d).toInt * s * ws = yval q w s ws := by
  rw [chunks_toInt q w a b c d ha hb hc hd]; rfl

variable (x0 : Vec Ideal S15360x2048 .bf16) (x1 : Vec Ideal S1x2048 .f32) (x2 : Vec Ideal S2048x5632 .i8) (x3 : Vec Ideal S1x5632 .f32)

/-- Row `r` of the activations scaled lane by lane. -/
def rrow (r : Fin 15360) : Fin 2048 → EReal := fun k => x0 (ix2 r k) * x1 (ix2 0 k)

/-- The scaled activations at an index. -/
theorem pay3_apply (r : Fin 15360) (k : Fin 2048) : k0_pay3 x0 x1 (ix2 r k) = rrow x0 x1 r k := by
  unfold k0_pay3
  try dsimp only
  rw [mulf_apply, extf_apply, shapeCast_self, shapeCast_self,
    broadcastTo_apply (k := ix2 0 k)]
  · rfl
  · intro a; match a with
    | ⟨0, _⟩ => rfl
    | ⟨1, _⟩ => rfl

/-- The row scales at an index. -/
theorem pay4_apply (r : Fin 15360) (z : Fin 1) : k0_pay4 x0 x1 (ix2 r z) = scl (rrow x0 x1 r) := by
  obtain rfl : z = 0 := Subsingleton.elim _ _
  have hm : (shapeCast S15360x1 (multiReduction .maximumf [1] S15360 (absf (k0_pay3 x0 x1)) 0xFF800000#32 reduces_S15360x2048_S15360 (.inl rfl) rfl) shapeCasts_S15360_S15360x1) (ix2 r 0)
      = amax (rrow x0 x1 r) := by
    rw [shapeCast_apply (k := ix1 r)]
    · refine (Ideal.multiReduction_maximumf_single _ _ _ _ _ _).trans ?_
      unfold amax
      refine congrArg (fun f => Finset.fold max _ f _) (funext fun k => ?_)
      have e : reduces_S15360x2048_S15360.lift (ix1 r) k = ix2 r k := by
        funext a; apply Fin.ext
        match a with
        | ⟨0, _⟩ => rfl
        | ⟨1, _⟩ => rfl
      exact congrArg (FloatOps.absf (F := Ideal) (φ := .f32)) ((congrArg (k0_pay3 x0 x1) e).trans (pay3_apply x0 x1 r k))
    · rw [Shape.rowMajor_val_two, Shape.rowMajor_val_one]; show r.val = r.val * 1 + 0; omega
  unfold k0_pay4
  try dsimp only
  rw [select_apply', cmpf_apply, divf_apply, hm, broadcast_apply, broadcast_apply, broadcast_apply]; rfl

/-- The codes at an index. -/
theorem pay5_apply (r : Fin 15360) (k : Fin 2048) : k0_pay5 x0 x1 (ix2 r k) = code (rrow x0 x1 r k) (scl (rrow x0 x1 r)) := by
  unfold k0_pay5
  try dsimp only
  rw [fptosi8_apply, minimumf_apply, maximumf_apply, roundeven_apply, divf_apply, broadcast_apply, broadcast_apply, pay3_apply, broadcastTo_apply (k := ix2 r 0), pay4_apply]
  · rfl
  · intro a; match a with
    | ⟨0, _⟩ => rfl
    | ⟨1, _⟩ => rfl

/-- A chunk of 512 lanes of the codes times that chunk of the weights, at an index: the chunk's integer dot product. -/
theorem chunk_apply (o : ℕ) (ho : o + 512 ≤ 2048) (offq offw : Fin 2 → ℕ) (eq : offq = ![0, o]) (ew : offw = ![o, 0])
    (q : IVec S15360x2048 8) (w : IVec S2048x5632 8) (hq : S15360x2048.Slices offq S15360x512) (hw : S2048x5632.Slices offw S512x5632)
    (r : Fin 15360) (n : Fin 5632) :
    matmul (F := Ideal) (φ₁ := .bf16) (φ₂ := .bf16) dot_S15360x512_S512x5632_S15360x5632_1_0_0_1_n_n none
        (extractStridedSlice S15360x512 offq (sitofp (F := Ideal) .bf16 q) hq)
        (extractStridedSlice S512x5632 offw (sitofp (F := Ideal) .bf16 w) hw) (constant S15360x5632 .f32 0x00000000#32) (ix2 r n)
      = ofI (dotI (sub o 512 ho fun k => q (ix2 r k)) (sub o 512 ho fun k => w (ix2 k n))) := by
  subst eq ew
  refine (Ideal.matmul_plain_apply none _ _ (constant S15360x5632 .f32 0x00000000#32) r n).trans ?_
  rw [constant_apply, Ideal.ofBits_zero_f32, zero_add, ← sum_codes]
  refine Finset.sum_congr rfl fun k _ => ?_
  rw [extractStridedSlice_apply (k := ix2 r ⟨o + k.val, by omega⟩), extractStridedSlice_apply (k := ix2 ⟨o + k.val, by omega⟩ n), sitofp8_apply, sitofp8_apply]
  · rfl
  all_goals
    intro b; match b with
    | ⟨0, _⟩ => first | rfl | (show _ = _; simp [ix2]; done)
    | ⟨1, _⟩ => first | rfl | (show _ = _; simp [ix2]; done)

/-- The product at an index. -/
theorem pay1_apply (r : Fin 15360) (n : Fin 5632) :
    k0_pay1 (F := Ideal) (k0_pay4 x0 x1) (k0_pay7 x2) (k0_pay8 x0 x1 x2) (k0_pay9 x0 x1) x3 (ix2 r n)
      = yval (fun k => k0_pay5 x0 x1 (ix2 r k)) (fun k => x2 (ix2 k n)) (scl (rrow x0 x1 r)) (x3 (ix2 0 n)) := by
  have hb : (broadcastTo S15360x5632 (k0_pay4 x0 x1) broadcasts_S15360x1_S15360x5632) (ix2 r n) = scl (rrow x0 x1 r) := by
    rw [broadcastTo_apply (k := ix2 r 0), pay4_apply]
    intro a; match a with
    | ⟨0, _⟩ => rfl
    | ⟨1, _⟩ => rfl
  have hw : (broadcastTo S15360x5632 x3 broadcasts_S1x5632_S15360x5632) (ix2 r n) = x3 (ix2 0 n) := by
    rw [broadcastTo_apply (k := ix2 0 n)]
    intro a; match a with
    | ⟨0, _⟩ => rfl
    | ⟨1, _⟩ => rfl
  unfold k0_pay1 k0_pay8 k0_pay9 k0_pay6 k0_pay7
  try dsimp only
  rw [truncf_apply, mulf_apply, mulf_apply, shapeCast_self, hb, hw, sitofp32_apply, addi_apply', addi_apply', addi_apply', addi_apply',
    fptosi32_apply, fptosi32_apply, fptosi32_apply, fptosi32_apply, broadcast_apply]
  refine yval_of _ _ _ _ _ _ _ _ ?_ ?_ ?_ ?_
  · exact chunk_apply 0 _ _ _ rfl rfl _ _ _ _ r n
  · exact chunk_apply 512 _ _ _ rfl rfl _ _ _ _ r n
  · exact chunk_apply 1024 _ _ _ rfl rfl _ _ _ _ r n
  · exact chunk_apply 1536 _ _ _ rfl rfl _ _ _ _ r n

/-- The scales laid out eight rows of 1920. -/
theorem pay2_apply (v : FVec Ideal S15360x1 .f32) (b : Fin 8) (s : Fin 1920) :
    k0_pay2 (F := Ideal) v (ix2 b s) = v (ix2 ⟨b.val * 1920 + s.val, by omega⟩ 0) := by
  unfold k0_pay2
  try dsimp only
  rw [shapeCast_apply (k := ix2 ⟨b.val * 1920 + s.val, by omega⟩ 0)]
  rw [Shape.rowMajor_val_two, Shape.rowMajor_val_two]
  show (b.val * 1920 + s.val) * 1 + 0 = b.val * 1920 + s.val
  omega

end Cert.ReferenceIdeal.Val

end
-- ==== Proof.ReferenceValue.lean ====
/- The reference's three result arrays after the run, over the extended reals, as the same functions of its operands as the
   kernel's. -/
module

public import proofs.«01_k».proof.Proof.ReferenceRows
public import proofs.«01_k».proof.Proof.Spec
public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.ReferenceIdeal.Val

open Cert.Lin Cert.ReferenceIdeal Cert.ReferenceIdeal.Gen
open Idealize.ShloMosaic hiding ix2
open Idealize.ShloMosaic.TcCoe
open Idealize.ShloMosaic.ValueIdx (ix2)
open Idealize.SL.Sem

/-- Every operand and every result is one block: the block index of the activations is zero, -/
theorem idx0 : ∀ t : Fin cfg0.N, win0_0.index t = ![0, 0] := (by decide +kernel : ∀ t : Fin grid0.N, _)
/-- and of the column factors, -/
theorem idx1 : ∀ t : Fin cfg0.N, win0_1.index t = ![0, 0] := (by decide +kernel : ∀ t : Fin grid0.N, _)
/-- and of the weights, -/
theorem idx2 : ∀ t : Fin cfg0.N, win0_2.index t = ![0, 0] := (by decide +kernel : ∀ t : Fin grid0.N, _)
/-- and of the weights' scales, -/
theorem idx3 : ∀ t : Fin cfg0.N, win0_3.index t = ![0, 0] := (by decide +kernel : ∀ t : Fin grid0.N, _)
/-- and of the product, -/
theorem idx4 : ∀ t : Fin cfg0.N, win0_4.index t = ![0, 0] := (by decide +kernel : ∀ t : Fin grid0.N, _)
/-- and of the codes, -/
theorem idx5 : ∀ t : Fin cfg0.N, win0_5.index t = ![0, 0] := (by decide +kernel : ∀ t : Fin grid0.N, _)
/-- and of the scales. -/
theorem idx6 : ∀ t : Fin cfg0.N, win0_6.index t = ![0, 0] := (by decide +kernel : ∀ t : Fin grid0.N, _)

section Body

variable (x0 : Vec Ideal S15360x2048 .bf16) (x1 : Vec Ideal S1x2048 .f32) (x2 : Vec Ideal S2048x5632 .i8) (x3 : Vec Ideal S1x5632 .f32)

/-- The offsets of a whole block. -/
theorem off00 : (![0, 0] : Fin 2 → ℕ) = fun _ => 0 := by decide

/-- The product the body leaves is the product of its operands. -/
theorem out4_eq : out0_4 (F := Ideal) x0 x1 x2 x3 = product x0 x1 x2 x3 := by
  unfold out0_4 k0_pay10
  rw [View.canon_cons_unit_zero off00, View.ld_unit_zero off00, View.ld_unit_zero off00, View.ld_unit_zero off00, View.ld_unit_zero off00]
  funext j
  obtain ⟨r, n, rfl⟩ : ∃ (r : Fin 15360) (n : Fin 5632), j = ix2 r n := ⟨j 0, j 1, by funext a; match a with | ⟨0, _⟩ => rfl | ⟨1, _⟩ => rfl⟩
  refine (pay1_apply x0 x1 x2 x3 r n).trans ?_
  rw [show (fun k => k0_pay5 (F := Ideal) x0 x1 (ix2 r k)) = fun k => code (rrow x0 x1 r k) (scl (rrow x0 x1 r)) from
    funext fun k => pay5_apply x0 x1 r k]
  rfl

/-- The codes the body leaves are the codes of its operands. -/
theorem out5_eq : out0_5 (F := Ideal) x0 x1 x2 x3 = codes x0 x1 := by
  unfold out0_5
  rw [View.canon_cons_unit_zero off00, View.ld_unit_zero off00, View.ld_unit_zero off00]
  funext j
  obtain ⟨r, n, rfl⟩ : ∃ (r : Fin 15360) (n : Fin 2048), j = ix2 r n := ⟨j 0, j 1, by funext a; match a with | ⟨0, _⟩ => rfl | ⟨1, _⟩ => rfl⟩
  exact pay5_apply x0 x1 r n

/-- The scales the body leaves are the scales of its operands. -/
theorem out6_eq : out0_6 (F := Ideal) x0 x1 x2 x3 = scales x0 x1 := by
  unfold out0_6 k0_pay10
  rw [View.canon_cons_unit_zero off00, View.ld_unit_zero off00, View.ld_unit_zero off00]
  funext j
  obtain ⟨b, s, rfl⟩ : ∃ (b : Fin 8) (s : Fin 1920), j = ix2 b s := ⟨j 0, j 1, by funext a; match a with | ⟨0, _⟩ => rfl | ⟨1, _⟩ => rfl⟩
  refine (pay2_apply _ b s).trans ((pay4_apply x0 x1 _ 0).trans ?_)
  exact congrArg (fun R : Fin 15360 => scl (lrow x0 x1 R)) (Fin.ext (Nat.mul_comm b.val 1920 ▸ rfl : b.val * 1920 + s.val = 1920 * b.val + s.val))

end Body

variable (m : (ℓ : Loc nD τ sig) → Buf (Elt Ideal) ℓ) (ρ : Dev nD → PrngReg)

/-- The activations as the body finds them. -/
def X0 (c : Dev nD) : Vec Ideal S15360x2048 .bf16 := V m c main_v0
/-- The column factors as the body finds them. -/
def X1 (c : Dev nD) : Vec Ideal S1x2048 .f32 := V m c main_v1
/-- The weights as the body finds them. -/
def X2 (c : Dev nD) : Vec Ideal S2048x5632 .i8 := V m c main_arg2
/-- The weights' scales as the body finds them. -/
def X3 (c : Dev nD) : Vec Ideal S1x5632 .f32 := V m c main_v2

/-- The activations' block is the whole array, -/
theorem iblk0_eq (c : Dev nD) (t : Fin cfg0.N) : (iblk m c 0 t : Vec Ideal S15360x2048 .bf16) = X0 m c := by
  unfold X0
  funext y
  blk_simp [iblk]
  refine congrArg (V m c main_v0) ?_
  funext a; apply Fin.ext
  match a with
  | ⟨0, _⟩ => blk_simp [idx0]
  | ⟨1, _⟩ => blk_simp [idx0]

/-- and the column factors', -/
theorem iblk1_eq (c : Dev nD) (t : Fin cfg0.N) : (iblk m c 1 t : Vec Ideal S1x2048 .f32) = X1 m c := by
  unfold X1
  funext y
  blk_simp [iblk]
  refine congrArg (V m c main_v1) ?_
  funext a; apply Fin.ext
  match a with
  | ⟨0, _⟩ => blk_simp [idx1]
  | ⟨1, _⟩ => blk_simp [idx1]

/-- and the weights', -/
theorem iblk2_eq (c : Dev nD) (t : Fin cfg0.N) : (iblk m c 2 t : Vec Ideal S2048x5632 .i8) = X2 m c := by
  unfold X2
  funext y
  blk_simp [iblk]
  refine congrArg (V m c main_arg2) ?_
  funext a; apply Fin.ext
  match a with
  | ⟨0, _⟩ => blk_simp [idx2]
  | ⟨1, _⟩ => blk_simp [idx2]

/-- and the weights' scales'. -/
theorem iblk3_eq (c : Dev nD) (t : Fin cfg0.N) : (iblk m c 3 t : Vec Ideal S1x5632 .f32) = X3 m c := by
  unfold X3
  funext y
  blk_simp [iblk]
  refine congrArg (V m c main_v2) ?_
  funext a; apply Fin.ext
  match a with
  | ⟨0, _⟩ => blk_simp [idx3]
  | ⟨1, _⟩ => blk_simp [idx3]

/-- The product's array after the run is the product. -/
theorem final4 (c : Dev nD) : (dats m 0 c).arrAt 4 cfg0.N = product (X0 m c) (X1 m c) (X2 m c) (X3 m c) := by
  refine Pipeline.Dat.arrAt_eq_of_covers _ 4 _ (by decide +kernel) fun t hf y => ?_
  blk_simp
  rw [after0_4, iblk0_eq, iblk1_eq, iblk2_eq, iblk3_eq, out4_eq]
  refine congrArg (product (X0 m c) (X1 m c) (X2 m c) (X3 m c)) ?_
  funext a; apply Fin.ext
  match a with
  | ⟨0, _⟩ => blk_simp [idx4]
  | ⟨1, _⟩ => blk_simp [idx4]

/-- The codes' array after the run is the codes. -/
theorem final5 (c : Dev nD) : (dats m 0 c).arrAt 5 cfg0.N = codes (X0 m c) (X1 m c) := by
  refine Pipeline.Dat.arrAt_eq_of_covers _ 5 _ (by decide +kernel) fun t hf y => ?_
  blk_simp
  rw [after0_5, iblk0_eq, iblk1_eq, out5_eq]
  refine congrArg (codes (X0 m c) (X1 m c)) ?_
  funext a; apply Fin.ext
  match a with
  | ⟨0, _⟩ => blk_simp [idx5]
  | ⟨1, _⟩ => blk_simp [idx5]

/-- The scales' array after the run is the scales. -/
theorem final6 (c : Dev nD) : (dats m 0 c).arrAt 6 cfg0.N = scales (X0 m c) (X1 m c) := by
  refine Pipeline.Dat.arrAt_eq_of_covers _ 6 _ (by decide +kernel) fun t hf y => ?_
  blk_simp
  rw [after0_6, iblk0_eq, iblk1_eq, out6_eq]
  refine congrArg (scales (X0 m c) (X1 m c)) ?_
  funext a; apply Fin.ext
  match a with
  | ⟨0, _⟩ => blk_simp [idx6]
  | ⟨1, _⟩ => blk_simp [idx6]

/-- THE REFERENCE'S RESULTS: every run ends with the product, the codes and the scales of its operands, the arguments
    unchanged. -/
theorem results : θ_run defs (onTc (τ := τ) (main (F := Ideal))) ⟨m, fun _ => 0, ρ⟩ (fun r => ∀ c : Dev nD,
      r.2.mem ((c.tc : Thread nD τ).loc main_v3_0) = product (X0 m c) (X1 m c) (X2 m c) (X3 m c)
      ∧ r.2.mem ((c.tc : Thread nD τ).loc main_v3_1) = codes (X0 m c) (X1 m c)
      ∧ r.2.mem ((c.tc : Thread nD τ).loc main_v3_2) = scales (X0 m c) (X1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 4).trans (final4 m c), ((h.1 c).1 5).trans (final5 m c), ((h.1 c).1 6).trans (final6 m c), h.2 c⟩)
    (θ_run_and (run_main m ρ) (unchanged m ρ))

end Cert.ReferenceIdeal.Val

end
-- ==== Proof.Operands.lean ====
/- Both programs reshape their arguments the same way before the body: equal arguments give equal operands. -/
module

public import proofs.«01_k».proof.Proof.KernelValue
public import proofs.«01_k».proof.Proof.ReferenceValue

@[expose] public section

set_option maxRecDepth 16384

noncomputable section

open Idealize.ShloMosaic hiding ix2
open Idealize.ShloMosaic.TcCoe

namespace Cert.KernelIdeal.Val

open Cert.KernelIdeal Cert.KernelIdeal.Gen

variable (m : (ℓ : Loc nD τ sig) → Buf (Elt Ideal) ℓ) (c : Dev nD)

/-- The kernel's activations are the first argument, reshaped. -/
theorem X0_eq : X0 m c = shapeCast S15360x2048 (m ((c.tc : Thread nD τ).loc main_arg0) : Vec Ideal S8x1920x2048 .bf16) shapeCasts_S8x1920x2048_S15360x2048 := by
  unfold X0; show StableHlo.after hostOps0 _ (Proc.devRef .tc main_v0) = _
  after_results
  rfl
/-- The kernel's column factors are the second argument, reshaped. -/
theorem X1_eq : X1 m c = shapeCast S1x2048 (m ((c.tc : Thread nD τ).loc main_arg1) : Vec Ideal S2048 .f32) shapeCasts_S2048_S1x2048 := by
  unfold X1; show StableHlo.after hostOps0 _ (Proc.devRef .tc main_v1) = _
  after_results
  rfl
/-- The kernel's weights are the third argument. -/
theorem X2_eq : X2 m c = (m ((c.tc : Thread nD τ).loc main_arg2) : Vec Ideal S2048x5632 .i8) := V_main_arg2 m c
/-- The kernel's weight scales are the fourth argument, reshaped. -/
theorem X3_eq : X3 m c = shapeCast S1x5632 (m ((c.tc : Thread nD τ).loc main_arg3) : Vec Ideal S5632 .f32) shapeCasts_S5632_S1x5632 := by
  unfold X3; show StableHlo.after hostOps0 _ (Proc.devRef .tc main_v2) = _
  after_results
  rfl

end Cert.KernelIdeal.Val

namespace Cert.ReferenceIdeal.Val

open Cert.ReferenceIdeal Cert.ReferenceIdeal.Gen

variable (m : (ℓ : Loc nD τ sig) → Buf (Elt Ideal) ℓ) (c : Dev nD)

/-- The reference's activations are the first argument, reshaped. -/
theorem X0_eq : X0 m c = shapeCast S15360x2048 (m ((c.tc : Thread nD τ).loc main_arg0) : Vec Ideal S8x1920x2048 .bf16) shapeCasts_S8x1920x2048_S15360x2048 := by
  unfold X0; show StableHlo.after hostOps0 _ (Proc.devRef .tc main_v0) = _
  after_results
  rfl
/-- The reference's column factors are the second argument, reshaped. -/
theorem X1_eq : X1 m c = shapeCast S1x2048 (m ((c.tc : Thread nD τ).loc main_arg1) : Vec Ideal S2048 .f32) shapeCasts_S2048_S1x2048 := by
  unfold X1; show StableHlo.after hostOps0 _ (Proc.devRef .tc main_v1) = _
  after_results
  rfl
/-- The reference's weights are the third argument. -/
theorem X2_eq : X2 m c = (m ((c.tc : Thread nD τ).loc main_arg2) : Vec Ideal S2048x5632 .i8) := V_main_arg2 m c
/-- The reference's weight scales are the fourth argument, reshaped. -/
theorem X3_eq : X3 m c = shapeCast S1x5632 (m ((c.tc : Thread nD τ).loc main_arg3) : Vec Ideal S5632 .f32) shapeCasts_S5632_S1x5632 := by
  unfold X3; show StableHlo.after hostOps0 _ (Proc.devRef .tc main_v2) = _
  after_results
  rfl

variable (mk : (ℓ : Loc Cert.KernelIdeal.nD Cert.KernelIdeal.τ Cert.KernelIdeal.sig) → Buf (Elt Ideal) ℓ)

/-- Where that argument agrees, the two programs' activations agree. -/
theorem X0_agree (e : m ((c.tc : Thread nD τ).loc main_arg0)
      = mk ((c.tc : Thread Cert.KernelIdeal.nD Cert.KernelIdeal.τ).loc Cert.KernelIdeal.main_arg0)) :
    X0 m c = Cert.KernelIdeal.Val.X0 mk c := by
  rw [X0_eq, Cert.KernelIdeal.Val.X0_eq, e]
/-- Where that argument agrees, the two programs' column factors agree. -/
theorem X1_agree (e : m ((c.tc : Thread nD τ).loc main_arg1)
      = mk ((c.tc : Thread Cert.KernelIdeal.nD Cert.KernelIdeal.τ).loc Cert.KernelIdeal.main_arg1)) :
    X1 m c = Cert.KernelIdeal.Val.X1 mk c := by
  rw [X1_eq, Cert.KernelIdeal.Val.X1_eq, e]
/-- Where that argument agrees, the two programs' weights agree. -/
theorem X2_agree (e : m ((c.tc : Thread nD τ).loc main_arg2)
      = mk ((c.tc : Thread Cert.KernelIdeal.nD Cert.KernelIdeal.τ).loc Cert.KernelIdeal.main_arg2)) :
    X2 m c = Cert.KernelIdeal.Val.X2 mk c := by
  rw [X2_eq, Cert.KernelIdeal.Val.X2_eq, e]
/-- Where that argument agrees, the two programs' weight scales agree. -/
theorem X3_agree (e : m ((c.tc : Thread nD τ).loc main_arg3)
      = mk ((c.tc : Thread Cert.KernelIdeal.nD Cert.KernelIdeal.τ).loc Cert.KernelIdeal.main_arg3)) :
    X3 m c = Cert.KernelIdeal.Val.X3 mk c := by
  rw [X3_eq, Cert.KernelIdeal.Val.X3_eq, e]

end Cert.ReferenceIdeal.Val

end
-- ==== Proof.FrameSetup.lean ====
/- What the printed kernel's frame, at any values, stands on: the frame read off a relational run, the branch condition, the
   staging memrefs, the scratch invariant. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Val

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    `RDat.FramePost` read at the argument arrays — a staged input by the library's
    `RDat.FramePost.arr_in`, an array no window stages by the post's second clause, each then by `V_…` — is the frame
    claim's post. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, e0]
    word_cmp
   : ∀ t : Fin grid0.N, cond0_0 (grid0.coords t) ↔ t.val % 30 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
/-- That buffer of the activations is a whole buffer. -/
abbrev hs0_0 (t : Fin cfg0.N) : (ms0_0 t).IsWhole := hstage0_0 ((cfg0.slots t 0).cast nbuf0_0)
/-- The staging buffer of the column factors at point `t`. -/
abbrev ms0_1 (t : Fin cfg0.N) : Memref sig .tc .vmem S1x2048 .f32 := win0_1.stage (cfg0.slots t 1)
/-- That buffer of the column factors is a whole buffer. -/
abbrev hs0_1 (t : Fin cfg0.N) : (ms0_1 t).IsWhole := hstage0_1 ((cfg0.slots t 1).cast nbuf0_1)
/-- The staging buffer of the weights at point `t`. -/
abbrev ms0_2 (t : Fin cfg0.N) : Memref sig .tc .vmem S2048x5632 .i8 := win0_2.stage (cfg0.slots t 2)
/-- That buffer of the weights is a whole buffer. -/
abbrev hs0_2 (t : Fin cfg0.N) : (ms0_2 t).IsWhole := hstage0_2 ((cfg0.slots t 2).cast nbuf0_2)
/-- The staging buffer of the weights' scales at point `t`. -/
abbrev ms0_3 (t : Fin cfg0.N) : Memref sig .tc .vmem S1x5632 .f32 := win0_3.stage (cfg0.slots t 3)
/-- That buffer of the weights' scales is a whole buffer. -/
abbrev hs0_3 (t : Fin cfg0.N) : (ms0_3 t).IsWhole := hstage0_3 ((cfg0.slots t 3).cast nbuf0_3)
/-- The staging buffer of the product at point `t`. -/
abbrev ms0_4 (t : Fin cfg0.N) : Memref sig .tc .vmem S512x5632 .bf16 := win0_4.stage (cfg0.slots t 4)
/-- That buffer of the product is a whole buffer. -/
abbrev hs0_4 (t : Fin cfg0.N) : (ms0_4 t).IsWhole := hstage0_4 ((cfg0.slots t 4).cast nbuf0_4)
/-- The staging buffer of the codes at point `t`. -/
abbrev ms0_5 (t : Fin cfg0.N) : Memref sig .tc .vmem S512x2048 .i8 := win0_5.stage (cfg0.slots t 5)
/-- That buffer of the codes is a whole buffer. -/
abbrev hs0_5 (t : Fin cfg0.N) : (ms0_5 t).IsWhole := hstage0_5 ((cfg0.slots t 5).cast nbuf0_5)
/-- The staging buffer of the scales at point `t`. -/
abbrev ms0_6 (t : Fin cfg0.N) : Memref sig .tc .vmem S8x1920 .f32 := win0_6.stage (cfg0.slots t 6)
/-- That buffer of the scales is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2048x5632 .bf16 := Memref.whole cc0_scratch0
/-- The scratch buffer of the codes as bf16. -/
abbrev scM0_1 : Memref sig .tc .vmem S512x2048 .bf16 := Memref.whole cc0_scratch1

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Val

end
-- ==== Proof.FrameRunA.lean ====
/- The kernel's body run at the first grid point, nothing stated of what it leaves in its outputs. -/
module

public import proofs.«01_k».proof.Proof.FrameSetup

@[expose] public section

set_option maxRecDepth 16384

noncomputable section

namespace Cert.Kernel.Val

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1088000 in
/-- The body's triple IN CASE A (`scf.if` 0 taken: points 0): on whole staging memrefs — the inputs' at their contents,
    the FORGOTTEN outputs' (4, 5, 6) at anything, handed back at some contents nothing names —
    the body runs to the continuation holding the inputs' as they were, the scratch at some contents; the body's branch decided by the case's hypothesis. -/
theorem kernelRun0_A (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : cond0_0 i)
    (x0 : Vec F S512x2048 .bf16) (x1 : Vec F S1x2048 .f32) (x2 : Vec F S2048x5632 .i8) (x3 : Vec F S1x5632 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_w8a8_linear i arg1 harg1 arg2 harg2 arg3 harg3 arg4 harg4 arg5 harg5 arg6 harg6 arg7 harg7 arg8 harg8 arg9 harg9) K := by
    intro E K
    simp only [cc0_w8a8_linear_eq_skeleton]; unfold cc0_w8a8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Val

end
-- ==== Proof.FrameRunB.lean ====
/- The kernel's body run at every later grid point, nothing stated of what it leaves in its outputs. -/
module

public import proofs.«01_k».proof.Proof.FrameRunA

@[expose] public section

set_option maxRecDepth 16384

noncomputable section

namespace Cert.Kernel.Val

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1072000 in
/-- The body's triple IN CASE B (`scf.if` 0 not taken: points 1, 2, … 29: 29 of 30): on whole staging memrefs — the inputs' at their contents,
    the FORGOTTEN outputs' (4, 5, 6) at anything, handed back at some contents nothing names —
    the body runs to the continuation holding the inputs' as they were, the scratch at some contents; the body's branch decided by the case's hypothesis. -/
theorem kernelRun0_B (c : Dev nD) (i : grid0.Coords) (arg1 : Memref sig .tc .vmem S512x2048 .bf16) (harg1 : arg1.IsWhole) (arg2 : Memref sig .tc .vmem S1x2048 .f32) (harg2 : arg2.IsWhole) (arg3 : Memref sig .tc .vmem S2048x5632 .i8) (harg3 : arg3.IsWhole) (arg4 : Memref sig .tc .vmem S1x5632 .f32) (harg4 : arg4.IsWhole) (arg5 : Memref sig .tc .vmem S512x5632 .bf16) (harg5 : arg5.IsWhole) (arg6 : Memref sig .tc .vmem S512x2048 .i8) (harg6 : arg6.IsWhole) (arg7 : Memref sig .tc .vmem S8x1920 .f32) (harg7 : arg7.IsWhole) (arg8 : Memref sig .tc .vmem S2048x5632 .bf16) (harg8 : arg8.IsWhole) (arg9 : Memref sig .tc .vmem S512x2048 .bf16) (harg9 : arg9.IsWhole) (hc0 : ¬cond0_0 i)
    (x0 : Vec F S512x2048 .bf16) (x1 : Vec F S1x2048 .f32) (x2 : Vec F S2048x5632 .i8) (x3 : Vec F S1x5632 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_w8a8_linear i arg1 harg1 arg2 harg2 arg3 harg3 arg4 harg4 arg5 harg5 arg6 harg6 arg7 harg7 arg8 harg8 arg9 harg9) K := by
    intro E K
    simp only [cc0_w8a8_linear_eq_skeleton]; unfold cc0_w8a8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Val

end
-- ==== Proof.KernelFrame.lean ====
/- The printed kernel's frame, at any values: every run ends, the arguments and the semaphores as at the start. -/
module

public import proofs.«01_k».proof.Proof.FrameRunB
public import Idealize.ShloMosaic.Lib.Claim

@[expose] public section

set_option maxRecDepth 16384

noncomputable section

namespace Cert.Kernel.Val

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6): nothing reads what the kernel leaves in them, so nothing
    of it is named. -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves the block of the column factors in place. -/
theorem after0_1 (c : Dev nD) (t : Fin cfg0.N) : (dats m 0 c).after 1 t = iblk m c 1 t := by dsimp only [dats]
/-- The body leaves the block of the weights in place. -/
theorem after0_2 (c : Dev nD) (t : Fin cfg0.N) : (dats m 0 c).after 2 t = iblk m c 2 t := by dsimp only [dats]
/-- The body leaves the block of the weights' scales in place. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds the block of the column factors. -/
theorem before0_1 (c : Dev nD) (t : Fin cfg0.N) (d) : (dats m 0 c).before 1 t d = iblk m c 1 t :=
  before0_1_of m (dats m 0 c) (A_eq m c 1) (after0_1 m c) t d
/-- The body finds the block of the weights. -/
theorem before0_2 (c : Dev nD) (t : Fin cfg0.N) (d) : (dats m 0 c).before 2 t d = iblk m c 2 t :=
  before0_2_of m (dats m 0 c) (A_eq m c 2) (after0_2 m c) t d
/-- The body finds the block of the weights' scales. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 30 := lt_of_lt_of_eq t.isLt (show cfg0.N = 30 from N_0)
  by_cases h0 : t.val % 30 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6).
    Every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (fun c => (dats m 0 c).toRForget forgets0) (A_eq m) (run_main m ρ)

/-- THE FRAME: `Cert.quiescent_Kernel`'s statement (Defs.lean) at any `F` (Proof.lean cites it at `Bits`). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Val

end
-- ==== Proof.lean ====
/- The five claims: the frames of the kernel, of the idealized kernel and of the idealized reference; that the idealization
   preserves the kernel; and that the idealized kernel and the idealized reference compute the same three results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Operands
public import proofs.«01_k».proof.Proof.KernelFrame
public import Idealize.ShloMosaic.Adequacy
public import Idealize.ShloMosaic.Init

@[expose] public section

noncomputable section

namespace Cert.Proof

open Idealize.ShloMosaic Idealize.SL.Sem Cert.Kernel

/-- The idealized kernel and the idealized reference end with the same product, codes and scales whenever their arguments
    agree. -/
theorem algebraic : Cert.algebraic_KernelIdeal_ReferenceIdeal := fun m g m' g' _ hargs =>
  ⟨fun c => Cert.Lin.product (Cert.KernelIdeal.Val.X0 m c) (Cert.KernelIdeal.Val.X1 m c) (Cert.KernelIdeal.Val.X2 m c) (Cert.KernelIdeal.Val.X3 m c),
    fun c => Cert.Lin.codes (Cert.KernelIdeal.Val.X0 m c) (Cert.KernelIdeal.Val.X1 m c),
    fun c => Cert.Lin.scales (Cert.KernelIdeal.Val.X0 m c) (Cert.KernelIdeal.Val.X1 m c),
    Cert.KernelIdeal.Val.results m g,
    (θ_run _ _ _).mono (fun r h c => by
      obtain ⟨e0, e1, e2, e3⟩ := hargs c
      have h0 := Cert.ReferenceIdeal.Val.X0_agree m' c m e0
      have h1 := Cert.ReferenceIdeal.Val.X1_agree m' c m e1
      have h2 := Cert.ReferenceIdeal.Val.X2_agree m' c m e2
      have h3 := Cert.ReferenceIdeal.Val.X3_agree m' c m e3
      have hc := h c
      rw [h0, h1, h2, h3] at hc
      exact hc) (Cert.ReferenceIdeal.Val.results m' g')⟩

/-- The five claims. -/
theorem claim : Cert.Claim := ⟨Cert.Kernel.Gen.facts, Cert.KernelIdeal.Gen.facts, Cert.ReferenceIdeal.Gen.facts,
  fun m ρ _ => Cert.Kernel.Val.frame m ρ, fun m ρ _ => Cert.KernelIdeal.Val.frame m ρ,
  fun m ρ _ => Cert.ReferenceIdeal.Gen.frame m ρ, trivial, algebraic⟩

end Cert.Proof

end
